-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fully_connected [hPre_fully_connected : Cert.Pre_fully_connected.Facts] (m : (ℓ : Loc Cert.KernelIdeal.nD Cert.KernelIdeal.τ Cert.KernelIdeal.sig) → Buf (Elt Ideal) ℓ) : Prop :=
  ∀ c : Dev Cert.KernelIdeal.nD,
    (Cert.Pre_fully_connected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fully_connected [hPre_fully_connected : Cert.Pre_fully_connected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fully_connected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_fully_connected [hKernelIdeal : Cert.KernelIdeal.Facts] [hPre_fully_connected : Cert.Pre_fully_connected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fully_connected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_fully_connected [hReferenceIdeal : Cert.ReferenceIdeal.Facts] [hPre_fully_connected : Cert.Pre_fully_connected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fully_connected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_fully_connected [hKernelIdeal : Cert.KernelIdeal.Facts] [hReferenceIdeal : Cert.ReferenceIdeal.Facts] [hPre_fully_connected : Cert.Pre_fully_connected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fully_connected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_fully_connected : Cert.Pre_fully_connected.Facts),
    quiescent_Kernel (hKernel := hKernel)
    ∧ quiescent_KernelIdeal (hKernelIdeal := hKernelIdeal)
    ∧ quiescent_KernelIdeal_pre_fully_connected (hKernelIdeal := hKernelIdeal) (hPre_fully_connected := hPre_fully_connected)
    ∧ quiescent_ReferenceIdeal (hReferenceIdeal := hReferenceIdeal)
    ∧ quiescent_ReferenceIdeal_pre_fully_connected (hReferenceIdeal := hReferenceIdeal) (hPre_fully_connected := hPre_fully_connected)
    ∧ preserves_Kernel_KernelIdeal
    ∧ algebraic_KernelIdeal_ReferenceIdeal_pre_fully_connected (hKernelIdeal := hKernelIdeal) (hReferenceIdeal := hReferenceIdeal) (hPre_fully_connected := hPre_fully_connected)
-- ==== Pre_fully_connected.lean ====
abbrev S9996x256 : Shape := ⟨2, ![9996, 256]⟩
abbrev S159936x16 : Shape := ⟨2, ![159936, 16]⟩
abbrev S9996x300 : Shape := ⟨2, ![9996, 300]⟩
abbrev S9996 : Shape := ⟨1, ![9996]⟩
abbrev S2x159936 : Shape := ⟨2, ![2, 159936]⟩
abbrev S1128x1 : Shape := ⟨2, ![1128, 1]⟩
abbrev S1 : Shape := ⟨1, ![1]⟩
abbrev S1112x512 : Shape := ⟨2, ![1112, 512]⟩
abbrev S512 : Shape := ⟨1, ![512]⟩
abbrev S512x117 : Shape := ⟨2, ![512, 117]⟩
abbrev S117 : Shape := ⟨1, ![117]⟩
abbrev S159936 : Shape := ⟨1, ![159936]⟩
abbrev S_ : Shape := ⟨0, ![]⟩
abbrev S1x159936 : Shape := ⟨2, ![1, 159936]⟩

class Facts : Prop where
  bcast_S_S159936 : S_.BroadcastsInDim S159936 (![] : Fin 0 → Fin S159936.rank)
  bcast_S159936_S1x159936_1 : S159936.BroadcastsInDim S1x159936 (![1] : Fin 1 → Fin S1x159936.rank)
  concatenates_S1x159936_S1x159936_S2x159936_d0 : Shape.Concatenates [S1x159936, S1x159936] S2x159936 0
  reducesTo_S2x159936_S_d0_1 : S2x159936.ReducesTo [0, 1] S_
  h_S_ : 0 < S_.numel

variable [Facts]

def fn_where {F : FTy → Type} [FloatOps F] (arg0 : IVec S159936 1) (arg1 : IVec S159936 32) (arg2 : IVec S159936 32) : IVec S159936 32 :=
  let v0 : IVec S159936 32 := select arg0 arg1 arg2
  v0

def fn_floor_divide {F : FTy → Type} [FloatOps F] (arg0 : IVec S159936 32) (arg1 : IVec S_ 32) : IVec S159936 32 :=
  let v0 : IVec S_ 32 := id arg1
  let v1 : IVec S159936 32 := broadcastInDim S159936 ![] bcast_S_S159936 v0
  let v2 : IVec S159936 32 := Host.divsi arg0 v1
  let v3 : IVec S159936 32 := signi arg0
  let v4 : IVec S_ 32 := signi v0
  let v5 : IVec S159936 32 := broadcastInDim S159936 ![] bcast_S_S159936 v4
  let v6 : IVec S159936 1 := cmpi .ne v3 v5
  let v7 : IVec S159936 32 := broadcastInDim S159936 ![] bcast_S_S159936 v0
  let v8 : IVec S159936 32 := Host.remsi arg0 v7
  let c : IVec S_ 32 := constantI S_ 32 0#32
  let v9 : IVec S159936 32 := broadcastInDim S159936 ![] bcast_S_S159936 c
  let v10 : IVec S159936 1 := cmpi .ne v8 v9
  let v11 : IVec S159936 1 := andi v6 v10
  let c_0 : IVec S_ 32 := constantI S_ 32 1#32
  let v12 : IVec S159936 32 := broadcastInDim S159936 ![] bcast_S_S159936 c_0
  let v13 : IVec S159936 32 := subi v2 v12
  let v14 : IVec S159936 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S159936 32) (arg1 : IVec S_ 32) : IVec S159936 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S159936 32 := broadcastInDim S159936 ![] bcast_S_S159936 v2
  let v4 : IVec S159936 32 := Host.remsi arg0 v3
  let c_1 : IVec S_ 32 := constantI S_ 32 0#32
  let v5 : IVec S159936 32 := broadcastInDim S159936 ![] bcast_S_S159936 c_1
  let v6 : IVec S159936 1 := cmpi .ne v4 v5
  let c_2 : IVec S_ 32 := constantI S_ 32 0#32
  let v7 : IVec S159936 32 := broadcastInDim S159936 ![] bcast_S_S159936 c_2
  let v8 : IVec S159936 1 := cmpi .slt v4 v7
  let c_3 : IVec S_ 32 := constantI S_ 32 0#32
  let v9 : IVec S_ 1 := cmpi .slt v2 c_3
  let v10 : IVec S159936 1 := broadcastInDim S159936 ![] bcast_S_S159936 v9
  let v11 : IVec S159936 1 := cmpi .ne v8 v10
  let v12 : IVec S159936 1 := andi v11 v6
  let v13 : IVec S159936 32 := broadcastInDim S159936 ![] bcast_S_S159936 v2
  let v14 : IVec S159936 32 := addi v4 v13
  let v15 : IVec S159936 32 := select v12 v14 v4
  v15

def fn_part1 {F : FTy → Type} [FloatOps F] (main_arg4 : IVec S2x159936 32) (main_v15 : IVec S1x159936 32) (main_v16 : IVec S1x159936 32) : IVec S_ 1 :=
  let main_v17 : IVec S2x159936 32 := (fun a b => concatenate S2x159936 0 [⟨S1x159936, a⟩, ⟨S1x159936, b⟩] concatenates_S1x159936_S1x159936_S2x159936_d0) main_v15 main_v16
  let main_v18 : IVec S2x159936 1 := cmpi .eq main_arg4 main_v17
  let main_c_6 : IVec S_ 1 := constantI S_ 1 1#1
  let main_v19 : IVec S_ 1 := (fun x v => Host.reduce IntOp.andi x v reducesTo_S2x159936_S_d0_1 h_S_) main_v18 main_c_6
  main_v19

def fn {F : FTy → Type} [FloatOps F] (main_arg0 : FVec F S9996x256 .f32) (main_arg1 : FVec F S159936x16 .f32) (main_arg2 : FVec F S9996x300 .f32) (main_arg3 : IVec S9996 32) (main_arg4 : IVec S2x159936 32) (main_arg5 : FVec F S1128x1 .f32) (main_arg6 : FVec F S1 .f32) (main_arg7 : FVec F S1112x512 .f32) (main_arg8 : FVec F S512 .f32) (main_arg9 : FVec F S512x117 .f32) (main_arg10 : FVec F S117 .f32) (main_arg11 : FVec F S512x117 .f32) (main_arg12 : FVec F S117 .f32) : IVec S_ 1 :=
  let main_v0 : IVec S159936 32 := iotaInDim S159936 32 0
  let main_c : IVec S_ 32 := constantI S_ 32 272#32
  let main_v1 : IVec S159936 32 := fn_floor_divide (F := F) main_v0 main_c
  let main_c_0 : IVec S_ 32 := constantI S_ 32 272#32
  let main_v2 : IVec S159936 32 := fn_remainder (F := F) main_v0 main_c_0
  let main_c_1 : IVec S_ 32 := constantI S_ 32 16#32
  let main_v3 : IVec S159936 32 := fn_floor_divide (F := F) main_v2 main_c_1
  let main_c_2 : IVec S_ 32 := constantI S_ 32 16#32
  let main_v4 : IVec S159936 32 := fn_remainder (F := F) main_v0 main_c_2
  let main_v5 : IVec S159936 1 := cmpi .slt main_v4 main_v3
  let main_c_3 : IVec S_ 32 := constantI S_ 32 1#32
  let main_v6 : IVec S159936 32 := broadcastInDim S159936 ![] bcast_S_S159936 main_c_3
  let main_v7 : IVec S159936 32 := addi main_v4 main_v6
  let main_v8 : IVec S159936 32 := fn_where (F := F) main_v5 main_v4 main_v7
  let main_c_4 : IVec S_ 32 := constantI S_ 32 17#32
  let main_v9 : IVec S159936 32 := broadcastInDim S159936 ![] bcast_S_S159936 main_c_4
  let main_v10 : IVec S159936 32 := muli main_v9 main_v1
  let main_v11 : IVec S159936 32 := addi main_v10 main_v3
  let main_c_5 : IVec S_ 32 := constantI S_ 32 17#32
  let main_v12 : IVec S159936 32 := broadcastInDim S159936 ![] bcast_S_S159936 main_c_5
  let main_v13 : IVec S159936 32 := muli main_v12 main_v1
  let main_v14 : IVec S159936 32 := addi main_v13 main_v8
  let main_v15 : IVec S1x159936 32 := broadcastInDim S1x159936 ![1] bcast_S159936_S1x159936_1 main_v11
  let main_v16 : IVec S1x159936 32 := broadcastInDim S1x159936 ![1] bcast_S159936_S1x159936_1 main_v14
  fn_part1 (F := F) main_arg4 main_v15 main_v16
-- ==== Kernel.lean ====
abbrev S9996x256 : Shape := ⟨2, ![9996, 256]⟩
abbrev S159936x16 : Shape := ⟨2, ![159936, 16]⟩
abbrev S9996x300 : Shape := ⟨2, ![9996, 300]⟩
abbrev S9996 : Shape := ⟨1, ![9996]⟩
abbrev S2x159936 : Shape := ⟨2, ![2, 159936]⟩
abbrev S1128x1 : Shape := ⟨2, ![1128, 1]⟩
abbrev S1 : Shape := ⟨1, ![1]⟩
abbrev S1112x512 : Shape := ⟨2, ![1112, 512]⟩
abbrev S512 : Shape := ⟨1, ![512]⟩
abbrev S512x117 : Shape := ⟨2, ![512, 117]⟩
abbrev S117 : Shape := ⟨1, ![117]⟩
abbrev S256x1 : Shape := ⟨2, ![256, 1]⟩
abbrev S256 : Shape := ⟨1, ![256]⟩
abbrev S256x2 : Shape := ⟨2, ![256, 2]⟩
abbrev S24x256x2 : Shape := ⟨3, ![24, 256, 2]⟩
abbrev S300x1 : Shape := ⟨2, ![300, 1]⟩
abbrev S300 : Shape := ⟨1, ![300]⟩
abbrev S300x2 : Shape := ⟨2, ![300, 2]⟩
abbrev S24x300x2 : Shape := ⟨3, ![24, 300, 2]⟩
abbrev S16x1 : Shape := ⟨2, ![16, 1]⟩
abbrev S16 : Shape := ⟨1, ![16]⟩
abbrev S1x1x1x16 : Shape := ⟨4, ![1, 1, 1, 16]⟩
abbrev S1x1 : Shape := ⟨2, ![1, 1]⟩
abbrev S408x256 : Shape := ⟨2, ![408, 256]⟩
abbrev S408x300 : Shape := ⟨2, ![408, 300]⟩
abbrev S6528x16 : Shape := ⟨2, ![6528, 16]⟩
abbrev S1x1x1 : Shape := ⟨3, ![1, 1, 1]⟩
abbrev S24x17x256 : Shape := ⟨3, ![24, 17, 256]⟩
abbrev S24x17x300 : Shape := ⟨3, ![24, 17, 300]⟩
abbrev S24x17x16x16 : Shape := ⟨4, ![24, 17, 16, 16]⟩
abbrev S24x17x17 : Shape := ⟨3, ![24, 17, 17]⟩
abbrev S24x17x2 : Shape := ⟨3, ![24, 17, 2]⟩
abbrev S24x17x1 : Shape := ⟨3, ![24, 17, 1]⟩
abbrev S24x17x16 : Shape := ⟨3, ![24, 17, 16]⟩
abbrev S24x17 : Shape := ⟨2, ![24, 17]⟩
abbrev S24x1x17 : Shape := ⟨3, ![24, 1, 17]⟩
abbrev S9996x1 : Shape := ⟨2, ![9996, 1]⟩
abbrev S256x512 : Shape := ⟨2, ![256, 512]⟩
abbrev S300x512 : Shape := ⟨2, ![300, 512]⟩
abbrev S1x512 : Shape := ⟨2, ![1, 512]⟩
abbrev S1x117 : Shape := ⟨2, ![1, 117]⟩
abbrev S9996x117 : Shape := ⟨2, ![9996, 117]⟩
abbrev S512x256 : Shape := ⟨2, ![512, 256]⟩
abbrev S512x300 : Shape := ⟨2, ![512, 300]⟩
abbrev S512x1 : Shape := ⟨2, ![512, 1]⟩
abbrev S512x512 : Shape := ⟨2, ![512, 512]⟩

abbrev nBuf : Space → Nat
  | .hbm => 47
  | .vmem => 35
  | .smem => 0
  | _ => 0

abbrev bufTy : (tb : Table) → Fin (tcTables nBuf tb) → BufTy
  | .hbm, ⟨0, _⟩ => ⟨S9996x256, .f32⟩
  | .hbm, ⟨1, _⟩ => ⟨S159936x16, .f32⟩
  | .hbm, ⟨2, _⟩ => ⟨S9996x300, .f32⟩
  | .hbm, ⟨3, _⟩ => ⟨S9996, .i32⟩
  | .hbm, ⟨4, _⟩ => ⟨S2x159936, .i32⟩
  | .hbm, ⟨5, _⟩ => ⟨S1128x1, .f32⟩
  | .hbm, ⟨6, _⟩ => ⟨S1, .f32⟩
  | .hbm, ⟨7, _⟩ => ⟨S1112x512, .f32⟩
  | .hbm, ⟨8, _⟩ => ⟨S512, .f32⟩
  | .hbm, ⟨9, _⟩ => ⟨S512x117, .f32⟩
  | .hbm, ⟨10, _⟩ => ⟨S117, .f32⟩
  | .hbm, ⟨11, _⟩ => ⟨S512x117, .f32⟩
  | .hbm, ⟨12, _⟩ => ⟨S117, .f32⟩
  | .hbm, ⟨13, _⟩ => ⟨S256x1, .f32⟩
  | .hbm, ⟨14, _⟩ => ⟨S256, .f32⟩
  | .hbm, ⟨15, _⟩ => ⟨S256x1, .f32⟩
  | .hbm, ⟨16, _⟩ => ⟨S256, .f32⟩
  | .hbm, ⟨17, _⟩ => ⟨S256x1, .f32⟩
  | .hbm, ⟨18, _⟩ => ⟨S256x1, .f32⟩
  | .hbm, ⟨19, _⟩ => ⟨S256x2, .f32⟩
  | .hbm, ⟨20, _⟩ => ⟨S24x256x2, .f32⟩
  | .hbm, ⟨21, _⟩ => ⟨S300x1, .f32⟩
  | .hbm, ⟨22, _⟩ => ⟨S300, .f32⟩
  | .hbm, ⟨23, _⟩ => ⟨S300x1, .f32⟩
  | .hbm, ⟨24, _⟩ => ⟨S300, .f32⟩
  | .hbm, ⟨25, _⟩ => ⟨S300x1, .f32⟩
  | .hbm, ⟨26, _⟩ => ⟨S300x1, .f32⟩
  | .hbm, ⟨27, _⟩ => ⟨S300x2, .f32⟩
  | .hbm, ⟨28, _⟩ => ⟨S24x300x2, .f32⟩
  | .hbm, ⟨29, _⟩ => ⟨S16x1, .f32⟩
  | .hbm, ⟨30, _⟩ => ⟨S16, .f32⟩
  | .hbm, ⟨31, _⟩ => ⟨S1x1x1x16, .f32⟩
  | .hbm, ⟨32, _⟩ => ⟨S1x1, .f32⟩
  | .hbm, ⟨33, _⟩ => ⟨S9996x256, .bf16⟩
  | .hbm, ⟨34, _⟩ => ⟨S9996x300, .bf16⟩
  | .hbm, ⟨35, _⟩ => ⟨S9996x1, .i32⟩
  | .hbm, ⟨36, _⟩ => ⟨S1112x512, .bf16⟩
  | .hbm, ⟨37, _⟩ => ⟨S256x512, .bf16⟩
  | .hbm, ⟨38, _⟩ => ⟨S300x512, .bf16⟩
  | .hbm, ⟨39, _⟩ => ⟨S256x512, .bf16⟩
  | .hbm, ⟨40, _⟩ => ⟨S300x512, .bf16⟩
  | .hbm, ⟨41, _⟩ => ⟨S1x512, .f32⟩
  | .hbm, ⟨42, _⟩ => ⟨S1x117, .f32⟩
  | .hbm, ⟨43, _⟩ => ⟨S1x117, .f32⟩
  | .hbm, ⟨44, _⟩ => ⟨S512x117, .bf16⟩
  | .hbm, ⟨45, _⟩ => ⟨S512x117, .bf16⟩
  | .hbm, ⟨46, _⟩ => ⟨S9996x117, .f32⟩
  | .local _ .vmem, ⟨0, _⟩ => ⟨S408x256, .f32⟩
  | .local _ .vmem, ⟨1, _⟩ => ⟨S408x256, .f32⟩
  | .local _ .vmem, ⟨2, _⟩ => ⟨S408x300, .f32⟩
  | .local _ .vmem, ⟨3, _⟩ => ⟨S408x300, .f32⟩
  | .local _ .vmem, ⟨4, _⟩ => ⟨S6528x16, .f32⟩
  | .local _ .vmem, ⟨5, _⟩ => ⟨S6528x16, .f32⟩
  | .local _ .vmem, ⟨6, _⟩ => ⟨S24x256x2, .f32⟩
  | .local _ .vmem, ⟨7, _⟩ => ⟨S24x300x2, .f32⟩
  | .local _ .vmem, ⟨8, _⟩ => ⟨S1x1x1x16, .f32⟩
  | .local _ .vmem, ⟨9, _⟩ => ⟨S1x1, .f32⟩
  | .local _ .vmem, ⟨10, _⟩ => ⟨S408x256, .bf16⟩
  | .local _ .vmem, ⟨11, _⟩ => ⟨S408x256, .bf16⟩
  | .local _ .vmem, ⟨12, _⟩ => ⟨S408x300, .bf16⟩
  | .local _ .vmem, ⟨13, _⟩ => ⟨S408x300, .bf16⟩
  | .local _ .vmem, ⟨14, _⟩ => ⟨S512x256, .f32⟩
  | .local _ .vmem, ⟨15, _⟩ => ⟨S512x256, .f32⟩
  | .local _ .vmem, ⟨16, _⟩ => ⟨S512x300, .f32⟩
  | .local _ .vmem, ⟨17, _⟩ => ⟨S512x300, .f32⟩
  | .local _ .vmem, ⟨18, _⟩ => ⟨S512x256, .bf16⟩
  | .local _ .vmem, ⟨19, _⟩ => ⟨S512x256, .bf16⟩
  | .local _ .vmem, ⟨20, _⟩ => ⟨S512x300, .bf16⟩
  | .local _ .vmem, ⟨21, _⟩ => ⟨S512x300, .bf16⟩
  | .local _ .vmem, ⟨22, _⟩ => ⟨S512x1, .i32⟩
  | .local _ .vmem, ⟨23, _⟩ => ⟨S512x1, .i32⟩
  | .local _ .vmem, ⟨24, _⟩ => ⟨S256x512, .bf16⟩
  | .local _ .vmem, ⟨25, _⟩ => ⟨S300x512, .bf16⟩
  | .local _ .vmem, ⟨26, _⟩ => ⟨S256x512, .bf16⟩
  | .local _ .vmem, ⟨27, _⟩ => ⟨S300x512, .bf16⟩
  | .local _ .vmem, ⟨28, _⟩ => ⟨S1x512, .f32⟩
  | .local _ .vmem, ⟨29, _⟩ => ⟨S512x117, .bf16⟩
  | .local _ .vmem, ⟨30, _⟩ => ⟨S1x117, .f32⟩
  | .local _ .vmem, ⟨31, _⟩ => ⟨S512x117, .bf16⟩
  | .local _ .vmem, ⟨32, _⟩ => ⟨S1x117, .f32⟩
  | .local _ .vmem, ⟨33, _⟩ => ⟨S512x117, .f32⟩
  | .local _ .vmem, ⟨34, _⟩ => ⟨S512x117, .f32⟩
  | _, _ => ⟨S9996x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg14_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem14_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S408x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S408x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6528x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x300x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S408x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S408x300 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x300 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S300x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S300x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x117 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x117 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x117 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x117 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S512x117 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S9996x256 : Shape := ⟨2, ![9996, 256]⟩
abbrev S159936x16 : Shape := ⟨2, ![159936, 16]⟩
abbrev S9996x300 : Shape := ⟨2, ![9996, 300]⟩
abbrev S9996 : Shape := ⟨1, ![9996]⟩
abbrev S2x159936 : Shape := ⟨2, ![2, 159936]⟩
abbrev S1128x1 : Shape := ⟨2, ![1128, 1]⟩
abbrev S1 : Shape := ⟨1, ![1]⟩
abbrev S1112x512 : Shape := ⟨2, ![1112, 512]⟩
abbrev S512 : Shape := ⟨1, ![512]⟩
abbrev S512x117 : Shape := ⟨2, ![512, 117]⟩
abbrev S117 : Shape := ⟨1, ![117]⟩
abbrev S1x159936 : Shape := ⟨2, ![1, 159936]⟩
abbrev S159936 : Shape := ⟨1, ![159936]⟩
abbrev S9996x556 : Shape := ⟨2, ![9996, 556]⟩
abbrev S_ : Shape := ⟨0, ![]⟩
abbrev S159936x1 : Shape := ⟨2, ![159936, 1]⟩
abbrev S1x1 : Shape := ⟨2, ![1, 1]⟩
abbrev S159936x556 : Shape := ⟨2, ![159936, 556]⟩
abbrev S159936x1128 : Shape := ⟨2, ![159936, 1128]⟩
abbrev S9996x1 : Shape := ⟨2, ![9996, 1]⟩
abbrev S9996x159936 : Shape := ⟨2, ![9996, 159936]⟩
abbrev S9996x1112 : Shape := ⟨2, ![9996, 1112]⟩
abbrev S9996x512 : Shape := ⟨2, ![9996, 512]⟩
abbrev S1x512 : Shape := ⟨2, ![1, 512]⟩
abbrev S9996x117 : Shape := ⟨2, ![9996, 117]⟩
abbrev S1x117 : Shape := ⟨2, ![1, 117]⟩

abbrev nBuf : Space → Nat
  | .hbm => 175
  | .vmem => 0
  | .smem => 0
  | _ => 0

abbrev hbmTy0_0 (i : Nat) : BufTy := match i % 128 with
  | 0 => ⟨S9996x256, .f32⟩
  | 1 => ⟨S159936x16, .f32⟩
  | 2 => ⟨S9996x300, .f32⟩
  | 3 => ⟨S9996, .i32⟩
  | 4 => ⟨S2x159936, .i32⟩
  | 5 => ⟨S1128x1, .f32⟩
  | 6 => ⟨S1, .f32⟩
  | 7 => ⟨S1112x512, .f32⟩
  | 8 => ⟨S512, .f32⟩
  | 9 => ⟨S512x117, .f32⟩
  | 10 => ⟨S117, .f32⟩
  | 11 => ⟨S512x117, .f32⟩
  | 12 => ⟨S117, .f32⟩
  | 13 => ⟨S1x159936, .i32⟩
  | 14 => ⟨S159936, .i32⟩
  | 15 => ⟨S1x159936, .i32⟩
  | 16 => ⟨S159936, .i32⟩
  | 17 => ⟨S9996x556, .f32⟩
  | 18 => ⟨S_, .i32⟩
  | 19 => ⟨S159936, .i32⟩
  | 20 => ⟨S159936, .i1⟩
  | 21 => ⟨S_, .i32⟩
  | 22 => ⟨S159936, .i32⟩
  | 23 => ⟨S159936, .i32⟩
  | 24 => ⟨S159936, .i32⟩
  | 25 => ⟨S159936x1, .i32⟩
  | 26 => ⟨S1, .i32⟩
  | 27 => ⟨S_, .i32⟩
  | 28 => ⟨S159936x1, .i32⟩
  | 29 => ⟨S159936x1, .i1⟩
  | 30 => ⟨S1x1, .i32⟩
  | 31 => ⟨S159936x1, .i32⟩
  | 32 => ⟨S159936x1, .i1⟩
  | 33 => ⟨S159936x1, .i1⟩
  | 34 => ⟨S_, .i1⟩
  | 35 => ⟨S159936, .i1⟩
  | 36 => ⟨S159936x556, .f32⟩
  | 37 => ⟨S159936x556, .i1⟩
  | 38 => ⟨S_, .f32⟩
  | 39 => ⟨S159936x556, .f32⟩
  | 40 => ⟨S159936x556, .f32⟩
  | 41 => ⟨S_, .i32⟩
  | 42 => ⟨S159936, .i32⟩
  | 43 => ⟨S159936, .i1⟩
  | 44 => ⟨S_, .i32⟩
  | 45 => ⟨S159936, .i32⟩
  | 46 => ⟨S159936, .i32⟩
  | 47 => ⟨S159936, .i32⟩
  | 48 => ⟨S159936x1, .i32⟩
  | 49 => ⟨S1, .i32⟩
  | 50 => ⟨S_, .i32⟩
  | 51 => ⟨S159936x1, .i32⟩
  | 52 => ⟨S159936x1, .i1⟩
  | 53 => ⟨S1x1, .i32⟩
  | 54 => ⟨S159936x1, .i32⟩
  | 55 => ⟨S159936x1, .i1⟩
  | 56 => ⟨S159936x1, .i1⟩
  | 57 => ⟨S_, .i1⟩
  | 58 => ⟨S159936, .i1⟩
  | 59 => ⟨S159936x556, .f32⟩
  | 60 => ⟨S159936x556, .i1⟩
  | 61 => ⟨S_, .f32⟩
  | 62 => ⟨S159936x556, .f32⟩
  | 63 => ⟨S159936x556, .f32⟩
  | 64 => ⟨S159936x1128, .f32⟩
  | 65 => ⟨S159936x1, .f32⟩
  | 66 => ⟨S1x1, .f32⟩
  | 67 => ⟨S159936x1, .f32⟩
  | 68 => ⟨S159936x1, .f32⟩
  | 69 => ⟨S_, .f32⟩
  | 70 => ⟨S_, .f32⟩
  | 71 => ⟨S159936x1, .f32⟩
  | 72 => ⟨S159936x1, .i1⟩
  | 73 => ⟨S_, .f32⟩
  | 74 => ⟨S159936x1, .f32⟩
  | 75 => ⟨S159936x1, .f32⟩
  | 76 => ⟨S159936x1, .f32⟩
  | 77 => ⟨S159936, .f32⟩
  | 78 => ⟨S9996, .i32⟩
  | 79 => ⟨S9996x1, .i32⟩
  | 80 => ⟨S1x159936, .i32⟩
  | 81 => ⟨S9996x159936, .i32⟩
  | 82 => ⟨S9996x159936, .i32⟩
  | 83 => ⟨S9996x159936, .i1⟩
  | 84 => ⟨S1x159936, .f32⟩
  | 85 => ⟨S_, .f32⟩
  | 86 => ⟨S_, .f32⟩
  | 87 => ⟨S9996x159936, .f32⟩
  | 88 => ⟨S9996x159936, .f32⟩
  | 89 => ⟨S9996x159936, .f32⟩
  | 90 => ⟨S_, .f32⟩
  | 91 => ⟨S9996, .f32⟩
  | 92 => ⟨S_, .i32⟩
  | 93 => ⟨S159936, .i32⟩
  | 94 => ⟨S159936, .i1⟩
  | 95 => ⟨S_, .i32⟩
  | 96 => ⟨S159936, .i32⟩
  | 97 => ⟨S159936, .i32⟩
  | 98 => ⟨S159936, .i32⟩
  | 99 => ⟨S159936x1, .i32⟩
  | 100 => ⟨S1, .i32⟩
  | 101 => ⟨S_, .i32⟩
  | 102 => ⟨S159936x1, .i32⟩
  | 103 => ⟨S159936x1, .i1⟩
  | 104 => ⟨S1x1, .i32⟩
  | 105 => ⟨S159936x1, .i32⟩
  | 106 => ⟨S159936x1, .i1⟩
  | 107 => ⟨S159936x1, .i1⟩
  | 108 => ⟨S_, .i1⟩
  | 109 => ⟨S159936, .i1⟩
  | 110 => ⟨S159936, .f32⟩
  | 111 => ⟨S_, .f32⟩
  | 112 => ⟨S159936, .f32⟩
  | 113 => ⟨S159936, .f32⟩
  | 114 => ⟨S159936, .f32⟩
  | 115 => ⟨S159936, .f32⟩
  | 116 => ⟨S_, .f32⟩
  | 117 => ⟨S9996, .f32⟩
  | 118 => ⟨S159936x1, .i32⟩
  | 119 => ⟨S9996, .f32⟩
  | 120 => ⟨S_, .i32⟩
  | 121 => ⟨S159936, .i32⟩
  | 122 => ⟨S159936, .i1⟩
  | 123 => ⟨S_, .i32⟩
  | 124 => ⟨S159936, .i32⟩
  | 125 => ⟨S159936, .i32⟩
  | 126 => ⟨S159936, .i32⟩
  | 127 => ⟨S159936x1, .i32⟩
  | _ => ⟨S9996x256, .f32⟩

abbrev hbmTy0_1 (i : Nat) : BufTy := match i % 128 with
  | 0 => ⟨S1, .i32⟩
  | 1 => ⟨S_, .i32⟩
  | 2 => ⟨S159936x1, .i32⟩
  | 3 => ⟨S159936x1, .i1⟩
  | 4 => ⟨S1x1, .i32⟩
  | 5 => ⟨S159936x1, .i32⟩
  | 6 => ⟨S159936x1, .i1⟩
  | 7 => ⟨S159936x1, .i1⟩
  | 8 => ⟨S_, .i1⟩
  | 9 => ⟨S159936, .i1⟩
  | 10 => ⟨S159936, .f32⟩
  | 11 => ⟨S_, .f32⟩
  | 12 => ⟨S159936, .f32⟩
  | 13 => ⟨S159936, .f32⟩
  | 14 => ⟨S_, .f32⟩
  | 15 => ⟨S159936, .f32⟩
  | 16 => ⟨S159936, .f32⟩
  | 17 => ⟨S159936, .f32⟩
  | 18 => ⟨S159936x1, .f32⟩
  | 19 => ⟨S159936x556, .f32⟩
  | 20 => ⟨S159936x556, .f32⟩
  | 21 => ⟨S_, .f32⟩
  | 22 => ⟨S9996x556, .f32⟩
  | 23 => ⟨S159936x1, .i32⟩
  | 24 => ⟨S9996x556, .f32⟩
  | 25 => ⟨S9996x1112, .f32⟩
  | 26 => ⟨S9996x512, .f32⟩
  | 27 => ⟨S1x512, .f32⟩
  | 28 => ⟨S9996x512, .f32⟩
  | 29 => ⟨S9996x512, .f32⟩
  | 30 => ⟨S_, .f32⟩
  | 31 => ⟨S9996x512, .f32⟩
  | 32 => ⟨S9996x512, .f32⟩
  | 33 => ⟨S9996x117, .f32⟩
  | 34 => ⟨S1x117, .f32⟩
  | 35 => ⟨S9996x117, .f32⟩
  | 36 => ⟨S9996x117, .f32⟩
  | 37 => ⟨S9996x117, .f32⟩
  | 38 => ⟨S1x117, .f32⟩
  | 39 => ⟨S9996x117, .f32⟩
  | 40 => ⟨S9996x117, .f32⟩
  | 41 => ⟨S_, .i32⟩
  | 42 => ⟨S9996, .i32⟩
  | 43 => ⟨S9996, .i1⟩
  | 44 => ⟨S9996x1, .i1⟩
  | 45 => ⟨S9996x117, .i1⟩
  | 46 => ⟨S9996x117, .f32⟩
  | _ => ⟨S9996x256, .f32⟩

abbrev hbmTy (i : Nat) : BufTy := match i / 128 with
  | 0 => hbmTy0_0 i
  | 1 => hbmTy0_1 i
  | _ => ⟨S9996x256, .f32⟩

abbrev bufTy : (tb : Table) → Fin (tcTables nBuf tb) → BufTy
  | .hbm, ⟨i, _⟩ => hbmTy i
  | _, _ => ⟨S9996x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_cst_0 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v21 : Ref sig .tc := ⟨.hbm, 89, rfl⟩
abbrev main_cst_1 : Ref sig .tc := ⟨.hbm, 90, rfl⟩
abbrev main_v22 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_cst : Ref sig .tc := ⟨.hbm, 111, rfl⟩
abbrev main_call4_v14 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_cst_2 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_cst : Ref sig .tc := ⟨.hbm, 139, rfl⟩
abbrev main_call5_v14 : Ref sig .tc := ⟨.hbm, 140, rfl⟩
abbrev main_v29 : Ref sig .tc := ⟨.hbm, 141, rfl⟩
abbrev main_cst_3 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_cst_4 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_call6_cst : Ref sig .tc := ⟨.hbm, 158, rfl⟩
abbrev main_call6_v0 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_c : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_call7_v0 : Ref sig .tc := ⟨.hbm, 173, rfl⟩
abbrev main_v56 : Ref sig .tc := ⟨.hbm, 174, rfl⟩

abbrev nD : Nat := 1
abbrev τ : Topo := Topo.v7x

variable {F : FTy → Type} [FloatOps F]
-- ==== Proof.IdealBody.lean ====
/- The bodies of the two launched kernels of `Cert.KernelIdeal`, and the proof data of the two pipelines.

   A body is run on staging buffers of any contents and ends with the inputs' buffers as they were and each output's at
   a value named here (`attnFeat`, `attnWord`, `denseOut`). Both grids end in a block that overhangs its arrays, so a
   staging buffer holds the array's rows in its part inside the array and anything past it (`Window.fill`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysF
public import Idealize.ShloMosaic.Lib.Pipeline.FrameSuffix
public import Idealize.ShloMosaic.Lib.Pipeline.Value
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

section Bodies

variable {U : Type} [URA U]

local notation "𝕄" => MT nD τ sig Unit (Elt F) ℕ U ℕ

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! # Kernel 0, `cc0__attn_kernel` -/

/-- What the body stores in window 7's buffer, from the contents of the input windows' buffers. -/
def attnFeat (x0 : Vec F S408x256 .f32) (x1 : Vec F S408x300 .f32) (x2 : Vec F S6528x16 .f32) (x3 : Vec F S24x256x2 .f32) (x4 : Vec F S24x300x2 .f32) (x5 : Vec F S1x1x1x16 .f32) (x6 : Vec F S1x1 .f32) : Vec F S408x256 .bf16 :=
  k0_pay2 (k0_pay4 x6) (k0_pay5 x0) (iota .tc S24x17x17 32 [1] iota_S24x17x17_d1_w32) (iota .tc S24x17x17 32 [2] iota_S24x17x17_d2_w32) (k0_pay7 x3 x4 x5 x0 x1 x2)

theorem attnFeat_canon (x0 : Vec F S408x256 .f32) (x1 : Vec F S408x300 .f32) (x2 : Vec F S6528x16 .f32) (x3 : Vec F S24x256x2 .f32) (x4 : Vec F S24x300x2 .f32) (x5 : Vec F S1x1x1x16 .f32) (x6 : Vec F S1x1 .f32) :
    View.canon (Val := Elt F) [(⟨(Rect.unit (s := S408x256) ![0, 0] S408x256.size inb_S408x256_S408x256_0_0), k0_pay2 (k0_pay4 (View.ld x6 (Rect.unit (s := S1x1) ![0, 0] S1x1.size inb_S1x1_S1x1_0_0))) (k0_pay5 (View.ld x0 (Rect.unit (s := S408x256) ![0, 0] S408x256.size inb_S408x256_S408x256_0_0))) (iota .tc S24x17x17 32 [1] iota_S24x17x17_d1_w32) (iota .tc S24x17x17 32 [2] iota_S24x17x17_d2_w32) (k0_pay7 (View.ld x3 (Rect.unit (s := S24x256x2) ![0, 0, 0] S24x256x2.size inb_S24x256x2_S24x256x2_0_0_0)) (View.ld x4 (Rect.unit (s := S24x300x2) ![0, 0, 0] S24x300x2.size inb_S24x300x2_S24x300x2_0_0_0)) (View.ld x5 (Rect.unit (s := S1x1x1x16) ![0, 0, 0, 0] S1x1x1x16.size inb_S1x1x1x16_S1x1x1x16_0_0_0_0)) (View.ld x0 (Rect.unit (s := S408x256) ![0, 0] S408x256.size inb_S408x256_S408x256_0_0)) (View.ld x1 (Rect.unit (s := S408x300) ![0, 0] S408x300.size inb_S408x300_S408x300_0_0)) (View.ld x2 (Rect.unit (s := S6528x16) ![0, 0] S6528x16.size inb_S6528x16_S6528x16_0_0)))⟩ : View.Piece (Elt F) S408x256 .bf16)] = attnFeat x0 x1 x2 x3 x4 x5 x6 := by
  rw [View.canon_unit_zero z2]
  rw [View.ld_unit_zero z2 _ x0, View.ld_unit_zero z2 _ x1, View.ld_unit_zero z2 _ x2, View.ld_unit_zero z3 _ x3, View.ld_unit_zero z3 _ x4, View.ld_unit_zero z4 _ x5, View.ld_unit_zero z2 _ x6]
  rfl

theorem attnFeat_cover (p : Vec F S408x256 .bf16) (y : S408x256.Idx) :
    ∃ pc ∈ ([⟨(Rect.unit (s := S408x256) ![0, 0] S408x256.size inb_S408x256_S408x256_0_0), p⟩] : List (View.Piece (Elt F) S408x256 .bf16)), y ∈ pc.1.set :=
  View.cover_of_tiled [⟨(Rect.unit (s := S408x256) ![0, 0] S408x256.size inb_S408x256_S408x256_0_0), p⟩] S408x256.size (by rfl) y

/-- What the body stores in window 8's buffer, from the contents of the input windows' buffers. -/
def attnWord (x0 : Vec F S408x256 .f32) (x1 : Vec F S408x300 .f32) (x2 : Vec F S6528x16 .f32) (x3 : Vec F S24x256x2 .f32) (x4 : Vec F S24x300x2 .f32) (x5 : Vec F S1x1x1x16 .f32) (x6 : Vec F S1x1 .f32) : Vec F S408x300 .bf16 :=
  k0_pay3 (k0_pay4 x6) (k0_pay6 x1) (iota .tc S24x17x17 32 [1] iota_S24x17x17_d1_w32) (iota .tc S24x17x17 32 [2] iota_S24x17x17_d2_w32) (k0_pay7 x3 x4 x5 x0 x1 x2)

theorem attnWord_canon (x0 : Vec F S408x256 .f32) (x1 : Vec F S408x300 .f32) (x2 : Vec F S6528x16 .f32) (x3 : Vec F S24x256x2 .f32) (x4 : Vec F S24x300x2 .f32) (x5 : Vec F S1x1x1x16 .f32) (x6 : Vec F S1x1 .f32) :
    View.canon (Val := Elt F) [(⟨(Rect.unit (s := S408x300) ![0, 0] S408x300.size inb_S408x300_S408x300_0_0), k0_pay3 (k0_pay4 (View.ld x6 (Rect.unit (s := S1x1) ![0, 0] S1x1.size inb_S1x1_S1x1_0_0))) (k0_pay6 (View.ld x1 (Rect.unit (s := S408x300) ![0, 0] S408x300.size inb_S408x300_S408x300_0_0))) (iota .tc S24x17x17 32 [1] iota_S24x17x17_d1_w32) (iota .tc S24x17x17 32 [2] iota_S24x17x17_d2_w32) (k0_pay7 (View.ld x3 (Rect.unit (s := S24x256x2) ![0, 0, 0] S24x256x2.size inb_S24x256x2_S24x256x2_0_0_0)) (View.ld x4 (Rect.unit (s := S24x300x2) ![0, 0, 0] S24x300x2.size inb_S24x300x2_S24x300x2_0_0_0)) (View.ld x5 (Rect.unit (s := S1x1x1x16) ![0, 0, 0, 0] S1x1x1x16.size inb_S1x1x1x16_S1x1x1x16_0_0_0_0)) (View.ld x0 (Rect.unit (s := S408x256) ![0, 0] S408x256.size inb_S408x256_S408x256_0_0)) (View.ld x1 (Rect.unit (s := S408x300) ![0, 0] S408x300.size inb_S408x300_S408x300_0_0)) (View.ld x2 (Rect.unit (s := S6528x16) ![0, 0] S6528x16.size inb_S6528x16_S6528x16_0_0)))⟩ : View.Piece (Elt F) S408x300 .bf16)] = attnWord x0 x1 x2 x3 x4 x5 x6 := by
  rw [View.canon_unit_zero z2]
  rw [View.ld_unit_zero z2 _ x0, View.ld_unit_zero z2 _ x1, View.ld_unit_zero z2 _ x2, View.ld_unit_zero z3 _ x3, View.ld_unit_zero z3 _ x4, View.ld_unit_zero z4 _ x5, View.ld_unit_zero z2 _ x6]
  rfl

theorem attnWord_cover (p : Vec F S408x300 .bf16) (y : S408x300.Idx) :
    ∃ pc ∈ ([⟨(Rect.unit (s := S408x300) ![0, 0] S408x300.size inb_S408x300_S408x300_0_0), p⟩] : List (View.Piece (Elt F) S408x300 .bf16)), y ∈ pc.1.set :=
  View.cover_of_tiled [⟨(Rect.unit (s := S408x300) ![0, 0] S408x300.size inb_S408x300_S408x300_0_0), p⟩] S408x300.size (by rfl) y

set_option maxHeartbeats 1000000 in
/-- The body on whole staging buffers: the inputs' are left as they were, the outputs' at the values named above. -/
theorem body0 (c : Dev nD) (E : Set ℕ) (i : grid0.Coords) (arg1 : Memref sig .tc .vmem S408x256 .f32) (harg1 : arg1.IsWhole) (arg2 : Memref sig .tc .vmem S408x300 .f32) (harg2 : arg2.IsWhole) (arg3 : Memref sig .tc .vmem S6528x16 .f32) (harg3 : arg3.IsWhole) (arg4 : Memref sig .tc .vmem S24x256x2 .f32) (harg4 : arg4.IsWhole) (arg5 : Memref sig .tc .vmem S24x300x2 .f32) (harg5 : arg5.IsWhole) (arg6 : Memref sig .tc .vmem S1x1x1x16 .f32) (harg6 : arg6.IsWhole) (arg7 : Memref sig .tc .vmem S1x1 .f32) (harg7 : arg7.IsWhole) (arg8 : Memref sig .tc .vmem S408x256 .bf16) (harg8 : arg8.IsWhole) (arg9 : Memref sig .tc .vmem S408x300 .bf16) (harg9 : arg9.IsWhole)
    (x0 : Vec F S408x256 .f32) (x1 : Vec F S408x300 .f32) (x2 : Vec F S6528x16 .f32) (x3 : Vec F S24x256x2 .f32) (x4 : Vec F S24x300x2 .f32) (x5 : Vec F S1x1x1x16 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (attnFeat x0 x1 x2 x3 x4 x5 x6) ∗ owns (c : Thread nD τ) arg9 fullShare (attnWord x0 x1 x2 x3 x4 x5 x6)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (attnFeat_cover _)).trans ?_
    exact attnFeat_canon _ _ _ _ _ _ _
  iexists _; isplitr
  swap; · iexact H8
  ipureintro
  refine (View.read_writes_eq_canon _ _ _ (attnWord_cover _)).trans ?_
  exact attnWord_canon _ _ _ _ _ _ _

/-! ## The proof data of pipeline 0, at the contents `V` its region is entered with -/

/-- Window `w`'s block at point `t`, the part inside its array, as the region finds it. -/
def blk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The same filled out to a whole buffer with any words. -/
def full0 (V : (c : Dev nD) → (b : Ref sig .tc) → Buf (Elt F) ((c : Thread nD τ).loc b)) (c : Dev nD) (w : Fin cfg0.W) (t : Fin cfg0.N) :
    (cfg0.win w).block.Idx → Elt F (cfg0.win w).elt :=
  (cfg0.win w).fill (cfg0.grid.coords t) (fun _ => Classical.arbitrary _) (blk0 V c w t)

/-- After the body each input's buffer still holds its block, and each output's what `o` says. -/
def dat0 (V : (c : Dev nD) → (b : Ref sig .tc) → Buf (Elt F) ((c : Thread nD τ).loc b)) (o7 : (c : Dev nD) → Fin cfg0.N → Vec F S408x256 .bf16) (o8 : (c : Dev nD) → Fin cfg0.N → Vec F S408x300 .bf16) (c : Dev nD) : Dat τ (Elt F) Unit ℕ U ℕ cfg0 c where
  A w := V c (Pipeline.arrRef spec0 w)
  after w t := match w with
    | ⟨0, _⟩ => full0 V c 0 t
    | ⟨1, _⟩ => full0 V c 1 t
    | ⟨2, _⟩ => full0 V c 2 t
    | ⟨3, _⟩ => blk0 V c 3 t
    | ⟨4, _⟩ => blk0 V c 4 t
    | ⟨5, _⟩ => blk0 V c 5 t
    | ⟨6, _⟩ => blk0 V c 6 t
    | ⟨7, _⟩ => o7 c t
    | ⟨8, _⟩ => o8 c t
  Φ _ := Pipeline.ΦA spec0 c
  q _ := fullShare
  owed _ := 0

variable (V : (c : Dev nD) → (b : Ref sig .tc) → Buf (Elt F) ((c : Thread nD τ).loc b)) (o7 : (c : Dev nD) → Fin cfg0.N → Vec F S408x256 .bf16) (o8 : (c : Dev nD) → Fin cfg0.N → Vec F S408x300 .bf16)

theorem dat0_A (c : Dev nD) (w : Fin cfg0.W) : ((dat0 (U := U) V o7 o8) c).A w = V c (Pipeline.arrRef spec0 w) := by dsimp only [dat0]

theorem after0_0 (c : Dev nD) (t : Fin cfg0.N) : ((dat0 (U := U) V o7 o8) c).after 0 t = full0 V c 0 t := by dsimp only [dat0]
theorem after0_1 (c : Dev nD) (t : Fin cfg0.N) : ((dat0 (U := U) V o7 o8) c).after 1 t = full0 V c 1 t := by dsimp only [dat0]
theorem after0_2 (c : Dev nD) (t : Fin cfg0.N) : ((dat0 (U := U) V o7 o8) c).after 2 t = full0 V c 2 t := by dsimp only [dat0]
theorem after0_3 (c : Dev nD) (t : Fin cfg0.N) : ((dat0 (U := U) V o7 o8) c).after 3 t = blk0 V c 3 t := by dsimp only [dat0]
theorem after0_4 (c : Dev nD) (t : Fin cfg0.N) : ((dat0 (U := U) V o7 o8) c).after 4 t = blk0 V c 4 t := by dsimp only [dat0]
theorem after0_5 (c : Dev nD) (t : Fin cfg0.N) : ((dat0 (U := U) V o7 o8) c).after 5 t = blk0 V c 5 t := by dsimp only [dat0]
theorem after0_6 (c : Dev nD) (t : Fin cfg0.N) : ((dat0 (U := U) V o7 o8) c).after 6 t = blk0 V c 6 t := by dsimp only [dat0]
theorem after0_7 (c : Dev nD) (t : Fin cfg0.N) : ((dat0 (U := U) V o7 o8) c).after 7 t = o7 c t := by dsimp only [dat0]
theorem after0_8 (c : Dev nD) (t : Fin cfg0.N) : ((dat0 (U := U) V o7 o8) c).after 8 t = o8 c t := by dsimp only [dat0]

theorem before0_0 (c : Dev nD) (t : Fin cfg0.N) (d) : ((dat0 (U := U) V o7 o8) c).before 0 t d = (cfg0.win 0).fill (cfg0.grid.coords t) d (blk0 V c 0 t) := by
  unfold Dat.before; rw [if_pos (fetch0_0 t)]; rfl
theorem cut0_0 (c : Dev nD) (t : Fin cfg0.N) : (cfg0.win 0).cut (cfg0.grid.coords t) (((dat0 (U := U) V o7 o8) c).after 0 t) = blk0 V c 0 t := by
  rw [after0_0]; exact (cfg0.win 0).cut_fill _ _ _
theorem before0_1 (c : Dev nD) (t : Fin cfg0.N) (d) : ((dat0 (U := U) V o7 o8) c).before 1 t d = (cfg0.win 1).fill (cfg0.grid.coords t) d (blk0 V c 1 t) := by
  unfold Dat.before; rw [if_pos (fetch0_1 t)]; rfl
theorem cut0_1 (c : Dev nD) (t : Fin cfg0.N) : (cfg0.win 1).cut (cfg0.grid.coords t) (((dat0 (U := U) V o7 o8) c).after 1 t) = blk0 V c 1 t := by
  rw [after0_1]; exact (cfg0.win 1).cut_fill _ _ _
theorem before0_2 (c : Dev nD) (t : Fin cfg0.N) (d) : ((dat0 (U := U) V o7 o8) c).before 2 t d = (cfg0.win 2).fill (cfg0.grid.coords t) d (blk0 V c 2 t) := by
  unfold Dat.before; rw [if_pos (fetch0_2 t)]; rfl
theorem cut0_2 (c : Dev nD) (t : Fin cfg0.N) : (cfg0.win 2).cut (cfg0.grid.coords t) (((dat0 (U := U) V o7 o8) c).after 2 t) = blk0 V c 2 t := by
  rw [after0_2]; exact (cfg0.win 2).cut_fill _ _ _
theorem before0_3 (c : Dev nD) (t : Fin cfg0.N) (d) : ((dat0 (U := U) V o7 o8) c).before 3 t d = blk0 V c 3 t :=
  (((dat0 (U := U) V o7 o8) c).before_in_eq_fetched 3 rfl (fun _ => rfl) (fun _ _ _ => rfl) (fun t => by rw [after0_3]; rfl) t d).trans rfl
theorem before0_4 (c : Dev nD) (t : Fin cfg0.N) (d) : ((dat0 (U := U) V o7 o8) c).before 4 t d = blk0 V c 4 t :=
  (((dat0 (U := U) V o7 o8) c).before_in_eq_fetched 4 rfl (fun _ => rfl) (fun _ _ _ => rfl) (fun t => by rw [after0_4]; rfl) t d).trans rfl
theorem before0_5 (c : Dev nD) (t : Fin cfg0.N) (d) : ((dat0 (U := U) V o7 o8) c).before 5 t d = blk0 V c 5 t :=
  (((dat0 (U := U) V o7 o8) c).before_in_eq_fetched 5 rfl (fun _ => rfl) (fun _ _ _ => rfl) (fun t => by rw [after0_5]; rfl) t d).trans rfl
theorem before0_6 (c : Dev nD) (t : Fin cfg0.N) (d) : ((dat0 (U := U) V o7 o8) c).before 6 t d = blk0 V c 6 t :=
  (((dat0 (U := U) V o7 o8) c).before_in_eq_fetched 6 rfl (fun _ => rfl) (fun _ _ _ => rfl) (fun t => by rw [after0_6]; rfl) t d).trans rfl

theorem row0 (t : Fin cfg0.N) :
    defs₀ (F := F) .tc cfg0.body (cfg0.bodyArgs t (cfg0.slots t)) = bodyAt0 t := by
  unfold defs₀; rw [Defs.onTc_tc]

/-- The output windows' contents left unnamed. -/
def fgt0 : Fin cfg0.W → Bool := fun w => decide (7 ≤ w.val)

def pre0F (c : Dev nD) (t : Fin cfg0.N) : sProp 𝕄 :=
  iprop(((dat0 (U := U) V o7 o8) c).Φ t.castSucc ∗ ((dat0 (U := U) V o7 o8) c).owesAt () t.castSucc ∗ (∃ d, owns (c : Thread nD τ) (st0_0 t) fullShare (((dat0 (U := U) V o7 o8) c).before 0 t d)) ∗ (∃ d, owns (c : Thread nD τ) (st0_1 t) fullShare (((dat0 (U := U) V o7 o8) c).before 1 t d)) ∗ (∃ d, owns (c : Thread nD τ) (st0_2 t) fullShare (((dat0 (U := U) V o7 o8) c).before 2 t d)) ∗ (∃ d, owns (c : Thread nD τ) (st0_3 t) fullShare (((dat0 (U := U) V o7 o8) c).before 3 t d)) ∗ (∃ d, owns (c : Thread nD τ) (st0_4 t) fullShare (((dat0 (U := U) V o7 o8) c).before 4 t d)) ∗ (∃ d, owns (c : Thread nD τ) (st0_5 t) fullShare (((dat0 (U := U) V o7 o8) c).before 5 t d)) ∗ (∃ d, owns (c : Thread nD τ) (st0_6 t) fullShare (((dat0 (U := U) V o7 o8) c).before 6 t d)) ∗ (∃ X, owns (c : Thread nD τ) (st0_7 t) fullShare X) ∗ (∃ X, owns (c : Thread nD τ) (st0_8 t) fullShare X))
def post0F (c : Dev nD) (t : Fin cfg0.N) : sProp 𝕄 :=
  iprop(((dat0 (U := U) V o7 o8) c).Φ t.succ ∗ ((dat0 (U := U) V o7 o8) c).owesAt () t.succ ∗ (∃ d, owns (c : Thread nD τ) (st0_0 t) fullShare ((cfg0.win 0).fill (cfg0.grid.coords t) d ((cfg0.win 0).cut (cfg0.grid.coords t) (((dat0 (U := U) V o7 o8) c).after 0 t)))) ∗ (∃ d, owns (c : Thread nD τ) (st0_1 t) fullShare ((cfg0.win 1).fill (cfg0.grid.coords t) d ((cfg0.win 1).cut (cfg0.grid.coords t) (((dat0 (U := U) V o7 o8) c).after 1 t)))) ∗ (∃ d, owns (c : Thread nD τ) (st0_2 t) fullShare ((cfg0.win 2).fill (cfg0.grid.coords t) d ((cfg0.win 2).cut (cfg0.grid.coords t) (((dat0 (U := U) V o7 o8) c).after 2 t)))) ∗ owns (c : Thread nD τ) (st0_3 t) fullShare (((dat0 (U := U) V o7 o8) c).after 3 t) ∗ owns (c : Thread nD τ) (st0_4 t) fullShare (((dat0 (U := U) V o7 o8) c).after 4 t) ∗ owns (c : Thread nD τ) (st0_5 t) fullShare (((dat0 (U := U) V o7 o8) c).after 5 t) ∗ owns (c : Thread nD τ) (st0_6 t) fullShare (((dat0 (U := U) V o7 o8) c).after 6 t) ∗ (∃ X, owns (c : Thread nD τ) (st0_7 t) fullShare X) ∗ (∃ X, owns (c : Thread nD τ) (st0_8 t) fullShare X))

set_option maxHeartbeats 1000000 in
theorem step0F (c : Dev nD) (t : Fin cfg0.N) :
    pre0F (U := U) V o7 o8 c t ⊢ wp frame (wpE (defs₀ (F := F)) Variants.none c none) Set.univ (bodyAt0 t) (fun _ => post0F (U := U) V o7 o8 c t) := by
  unfold pre0F post0F bodyAt0
  rw [cut0_0, cut0_1, cut0_2]
  rw [show ((dat0 (U := U) V o7 o8) c).Φ t.succ = ((dat0 (U := U) V o7 o8) c).Φ t.castSucc from rfl,
    show ((dat0 (U := U) V o7 o8) c).owesAt () t.succ = ((dat0 (U := U) V o7 o8) c).owesAt () t.castSucc from rfl,
    after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 V o7 o8 c t d0, before0_1 V o7 o8 c t d1, before0_2 V o7 o8 c t d2, before0_3 V o7 o8 c t d3, before0_4 V o7 o8 c t d4, before0_5 V o7 o8 c t d5, before0_6 V o7 o8 c t d6]
  iapply (body0 (U := U) c Set.univ (grid0.coords t) _ _ _ _ _ _ _ _ _ _ _ _ _ _ _ _ _ _ ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexists _; iexact H0
  isplitl [H1]; · iexists _; iexact H1
  isplitl [H2]; · iexists _; iexact H2
  isplitl [H3]; · iexact H3
  isplitl [H4]; · iexact H4
  isplitl [H5]; · iexact H5
  isplitl [H6]; · iexact H6
  isplitl [H7]; · iexists _; iexact H7
  iexists _; iexact H8

theorem oblig0F (c : Dev nD) :
    BodyObligationLoose ((dat0 (U := U) V o7 o8) c) (defs₀ (F := F)) Variants.none () Set.univ fgt0 := fun t => by
  rw [bigSep_W0, bigSep_W0, row0]
  exact triple_restated (step0F V o7 o8 c t) rfl .rfl fun _ => .rfl

def pre0E (c : Dev nD) (t : Fin cfg0.N) : sProp 𝕄 :=
  iprop(((dat0 (U := U) V o7 o8) c).Φ t.castSucc ∗ ((dat0 (U := U) V o7 o8) c).owesAt () t.castSucc ∗ (∃ d, owns (c : Thread nD τ) (st0_0 t) fullShare (((dat0 (U := U) V o7 o8) c).before 0 t d)) ∗ (∃ d, owns (c : Thread nD τ) (st0_1 t) fullShare (((dat0 (U := U) V o7 o8) c).before 1 t d)) ∗ (∃ d, owns (c : Thread nD τ) (st0_2 t) fullShare (((dat0 (U := U) V o7 o8) c).before 2 t d)) ∗ (∃ d, owns (c : Thread nD τ) (st0_3 t) fullShare (((dat0 (U := U) V o7 o8) c).before 3 t d)) ∗ (∃ d, owns (c : Thread nD τ) (st0_4 t) fullShare (((dat0 (U := U) V o7 o8) c).before 4 t d)) ∗ (∃ d, owns (c : Thread nD τ) (st0_5 t) fullShare (((dat0 (U := U) V o7 o8) c).before 5 t d)) ∗ (∃ d, owns (c : Thread nD τ) (st0_6 t) fullShare (((dat0 (U := U) V o7 o8) c).before 6 t d)) ∗ (∃ d, owns (c : Thread nD τ) (st0_7 t) fullShare (((dat0 (U := U) V o7 o8) c).before 7 t d)) ∗ (∃ d, owns (c : Thread nD τ) (st0_8 t) fullShare (((dat0 (U := U) V o7 o8) c).before 8 t d)))
def post0E (c : Dev nD) (t : Fin cfg0.N) : sProp 𝕄 :=
  iprop(((dat0 (U := U) V o7 o8) c).Φ t.succ ∗ ((dat0 (U := U) V o7 o8) c).owesAt () t.succ ∗ (∃ d, owns (c : Thread nD τ) (st0_0 t) fullShare ((cfg0.win 0).fill (cfg0.grid.coords t) d ((cfg0.win 0).cut (cfg0.grid.coords t) (((dat0 (U := U) V o7 o8) c).after 0 t)))) ∗ (∃ d, owns (c : Thread nD τ) (st0_1 t) fullShare ((cfg0.win 1).fill (cfg0.grid.coords t) d ((cfg0.win 1).cut (cfg0.grid.coords t) (((dat0 (U := U) V o7 o8) c).after 1 t)))) ∗ (∃ d, owns (c : Thread nD τ) (st0_2 t) fullShare ((cfg0.win 2).fill (cfg0.grid.coords t) d ((cfg0.win 2).cut (cfg0.grid.coords t) (((dat0 (U := U) V o7 o8) c).after 2 t)))) ∗ owns (c : Thread nD τ) (st0_3 t) fullShare (((dat0 (U := U) V o7 o8) c).after 3 t) ∗ owns (c : Thread nD τ) (st0_4 t) fullShare (((dat0 (U := U) V o7 o8) c).after 4 t) ∗ owns (c : Thread nD τ) (st0_5 t) fullShare (((dat0 (U := U) V o7 o8) c).after 5 t) ∗ owns (c : Thread nD τ) (st0_6 t) fullShare (((dat0 (U := U) V o7 o8) c).after 6 t) ∗ (∃ d, owns (c : Thread nD τ) (st0_7 t) fullShare ((cfg0.win 7).fill (cfg0.grid.coords t) d ((cfg0.win 7).cut (cfg0.grid.coords t) (((dat0 (U := U) V o7 o8) c).after 7 t)))) ∗ (∃ d, owns (c : Thread nD τ) (st0_8 t) fullShare ((cfg0.win 8).fill (cfg0.grid.coords t) d ((cfg0.win 8).cut (cfg0.grid.coords t) (((dat0 (U := U) V o7 o8) c).after 8 t)))))

set_option maxHeartbeats 1000000 in
theorem step0E (c : Dev nD)
    (h7 : ∀ (t : Fin cfg0.N) d0 d1 d2, (cfg0.win 7).cut (cfg0.grid.coords t) (attnFeat ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)) = (cfg0.win 7).cut (cfg0.grid.coords t) (o7 c t))
    (h8 : ∀ (t : Fin cfg0.N) d0 d1 d2, (cfg0.win 8).cut (cfg0.grid.coords t) (attnWord ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)) = (cfg0.win 8).cut (cfg0.grid.coords t) (o8 c t)) (t : Fin cfg0.N) :
    pre0E (U := U) V o7 o8 c t ⊢ wp frame (wpE (defs₀ (F := F)) Variants.none c none) Set.univ (bodyAt0 t) (fun _ => post0E (U := U) V o7 o8 c t) := by
  unfold pre0E post0E bodyAt0
  rw [cut0_0, cut0_1, cut0_2]
  rw [show ((dat0 (U := U) V o7 o8) c).Φ t.succ = ((dat0 (U := U) V o7 o8) c).Φ t.castSucc from rfl,
    show ((dat0 (U := U) V o7 o8) c).owesAt () t.succ = ((dat0 (U := U) V o7 o8) c).owesAt () t.castSucc from rfl,
    after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 V o7 o8 c t d0, before0_1 V o7 o8 c t d1, before0_2 V o7 o8 c t d2, before0_3 V o7 o8 c t d3, before0_4 V o7 o8 c t d4, before0_5 V o7 o8 c t d5, before0_6 V o7 o8 c t d6]
  iapply (body0 (U := U) c Set.univ (grid0.coords t) _ _ _ _ _ _ _ _ _ _ _ _ _ _ _ _ _ _ ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexists _; iexact H0
  isplitl [H1]; · iexists _; iexact H1
  isplitl [H2]; · iexists _; iexact H2
  isplitl [H3]; · iexact H3
  isplitl [H4]; · iexact H4
  isplitl [H5]; · iexact H5
  isplitl [H6]; · iexact H6
  isplitl [H7]; · iexists (attnFeat ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)); rw [← h7 t d0 d1 d2, (cfg0.win 7).fill_cut]; iexact H7
  iexists (attnWord ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)); rw [← h8 t d0 d1 d2, (cfg0.win 8).fill_cut]; iexact H8

theorem oblig0E (c : Dev nD)
    (h7 : ∀ (t : Fin cfg0.N) d0 d1 d2, (cfg0.win 7).cut (cfg0.grid.coords t) (attnFeat ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)) = (cfg0.win 7).cut (cfg0.grid.coords t) (o7 c t))
    (h8 : ∀ (t : Fin cfg0.N) d0 d1 d2, (cfg0.win 8).cut (cfg0.grid.coords t) (attnWord ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)) = (cfg0.win 8).cut (cfg0.grid.coords t) (o8 c t)) :
    BodyObligationLoose ((dat0 (U := U) V o7 o8) c) (defs₀ (F := F)) Variants.none () Set.univ := fun t => by
  rw [bigSep_W0, bigSep_W0, row0]
  exact triple_restated (step0E V o7 o8 c h7 h8 t) rfl .rfl fun _ => .rfl

end Bodies
section Bodies

variable {U : Type} [URA U]

local notation "𝕄" => MT nD τ sig Unit (Elt F) ℕ U ℕ

/-! # Kernel 1, `cc1__dense_kernel` -/

/-- What the body stores in window 14's buffer, from the contents of the input windows' buffers. -/
def denseOut (x0 : Vec F S512x256 .f32) (x1 : Vec F S512x300 .f32) (x2 : Vec F S512x256 .bf16) (x3 : Vec F S512x300 .bf16) (x4 : Vec F S512x1 .i32) (x5 : Vec F S256x512 .bf16) (x6 : Vec F S300x512 .bf16) (x7 : Vec F S256x512 .bf16) (x8 : Vec F S300x512 .bf16) (x9 : Vec F S1x512 .f32) (x10 : Vec F S512x117 .bf16) (x11 : Vec F S1x117 .f32) (x12 : Vec F S512x117 .bf16) (x13 : Vec F S1x117 .f32) : Vec F S512x117 .f32 :=
  k1_pay1 (k1_pay2 x0 x5 x1 x6 x2 x7 x3 x8 x9) (k1_pay3 x0 x5 x1 x6 x2 x7 x3 x8 x9 x10) x11 x12 x13 x4

theorem denseOut_canon (x0 : Vec F S512x256 .f32) (x1 : Vec F S512x300 .f32) (x2 : Vec F S512x256 .bf16) (x3 : Vec F S512x300 .bf16) (x4 : Vec F S512x1 .i32) (x5 : Vec F S256x512 .bf16) (x6 : Vec F S300x512 .bf16) (x7 : Vec F S256x512 .bf16) (x8 : Vec F S300x512 .bf16) (x9 : Vec F S1x512 .f32) (x10 : Vec F S512x117 .bf16) (x11 : Vec F S1x117 .f32) (x12 : Vec F S512x117 .bf16) (x13 : Vec F S1x117 .f32) :
    View.canon (Val := Elt F) [(⟨(Rect.unit (s := S512x117) ![0, 0] S512x117.size inb_S512x117_S512x117_0_0), k1_pay1 (k1_pay2 (View.ld x0 (Rect.unit (s := S512x256) ![0, 0] S512x256.size inb_S512x256_S512x256_0_0)) (View.ld x5 (Rect.unit (s := S256x512) ![0, 0] S256x512.size inb_S256x512_S256x512_0_0)) (View.ld x1 (Rect.unit (s := S512x300) ![0, 0] S512x300.size inb_S512x300_S512x300_0_0)) (View.ld x6 (Rect.unit (s := S300x512) ![0, 0] S300x512.size inb_S300x512_S300x512_0_0)) (View.ld x2 (Rect.unit (s := S512x256) ![0, 0] S512x256.size inb_S512x256_S512x256_0_0)) (View.ld x7 (Rect.unit (s := S256x512) ![0, 0] S256x512.size inb_S256x512_S256x512_0_0)) (View.ld x3 (Rect.unit (s := S512x300) ![0, 0] S512x300.size inb_S512x300_S512x300_0_0)) (View.ld x8 (Rect.unit (s := S300x512) ![0, 0] S300x512.size inb_S300x512_S300x512_0_0)) (View.ld x9 (Rect.unit (s := S1x512) ![0, 0] S1x512.size inb_S1x512_S1x512_0_0))) (k1_pay3 (View.ld x0 (Rect.unit (s := S512x256) ![0, 0] S512x256.size inb_S512x256_S512x256_0_0)) (View.ld x5 (Rect.unit (s := S256x512) ![0, 0] S256x512.size inb_S256x512_S256x512_0_0)) (View.ld x1 (Rect.unit (s := S512x300) ![0, 0] S512x300.size inb_S512x300_S512x300_0_0)) (View.ld x6 (Rect.unit (s := S300x512) ![0, 0] S300x512.size inb_S300x512_S300x512_0_0)) (View.ld x2 (Rect.unit (s := S512x256) ![0, 0] S512x256.size inb_S512x256_S512x256_0_0)) (View.ld x7 (Rect.unit (s := S256x512) ![0, 0] S256x512.size inb_S256x512_S256x512_0_0)) (View.ld x3 (Rect.unit (s := S512x300) ![0, 0] S512x300.size inb_S512x300_S512x300_0_0)) (View.ld x8 (Rect.unit (s := S300x512) ![0, 0] S300x512.size inb_S300x512_S300x512_0_0)) (View.ld x9 (Rect.unit (s := S1x512) ![0, 0] S1x512.size inb_S1x512_S1x512_0_0)) (View.ld x10 (Rect.unit (s := S512x117) ![0, 0] S512x117.size inb_S512x117_S512x117_0_0))) (View.ld x11 (Rect.unit (s := S1x117) ![0, 0] S1x117.size inb_S1x117_S1x117_0_0)) (View.ld x12 (Rect.unit (s := S512x117) ![0, 0] S512x117.size inb_S512x117_S512x117_0_0)) (View.ld x13 (Rect.unit (s := S1x117) ![0, 0] S1x117.size inb_S1x117_S1x117_0_0)) (View.ld x4 (Rect.unit (s := S512x1) ![0, 0] S512x1.size inb_S512x1_S512x1_0_0))⟩ : View.Piece (Elt F) S512x117 .f32)] = denseOut x0 x1 x2 x3 x4 x5 x6 x7 x8 x9 x10 x11 x12 x13 := by
  rw [View.canon_unit_zero z2]
  rw [View.ld_unit_zero z2 _ x0, View.ld_unit_zero z2 _ x1, View.ld_unit_zero z2 _ x2, View.ld_unit_zero z2 _ x3, View.ld_unit_zero z2 _ x4, View.ld_unit_zero z2 _ x5, View.ld_unit_zero z2 _ x6, View.ld_unit_zero z2 _ x7, View.ld_unit_zero z2 _ x8, View.ld_unit_zero z2 _ x9, View.ld_unit_zero z2 _ x10, View.ld_unit_zero z2 _ x11, View.ld_unit_zero z2 _ x12, View.ld_unit_zero z2 _ x13]
  rfl

theorem denseOut_cover (p : Vec F S512x117 .f32) (y : S512x117.Idx) :
    ∃ pc ∈ ([⟨(Rect.unit (s := S512x117) ![0, 0] S512x117.size inb_S512x117_S512x117_0_0), p⟩] : List (View.Piece (Elt F) S512x117 .f32)), y ∈ pc.1.set :=
  View.cover_of_tiled [⟨(Rect.unit (s := S512x117) ![0, 0] S512x117.size inb_S512x117_S512x117_0_0), p⟩] S512x117.size (by rfl) y

set_option maxHeartbeats 1000000 in
/-- The body on whole staging buffers: the inputs' are left as they were, the outputs' at the values named above. -/
theorem body1 (c : Dev nD) (E : Set ℕ) (i : grid1.Coords) (arg1 : Memref sig .tc .vmem S512x256 .f32) (harg1 : arg1.IsWhole) (arg2 : Memref sig .tc .vmem S512x300 .f32) (harg2 : arg2.IsWhole) (arg3 : Memref sig .tc .vmem S512x256 .bf16) (harg3 : arg3.IsWhole) (arg4 : Memref sig .tc .vmem S512x300 .bf16) (harg4 : arg4.IsWhole) (arg5 : Memref sig .tc .vmem S512x1 .i32) (harg5 : arg5.IsWhole) (arg6 : Memref sig .tc .vmem S256x512 .bf16) (harg6 : arg6.IsWhole) (arg7 : Memref sig .tc .vmem S300x512 .bf16) (harg7 : arg7.IsWhole) (arg8 : Memref sig .tc .vmem S256x512 .bf16) (harg8 : arg8.IsWhole) (arg9 : Memref sig .tc .vmem S300x512 .bf16) (harg9 : arg9.IsWhole) (arg10 : Memref sig .tc .vmem S1x512 .f32) (harg10 : arg10.IsWhole) (arg11 : Memref sig .tc .vmem S512x117 .bf16) (harg11 : arg11.IsWhole) (arg12 : Memref sig .tc .vmem S1x117 .f32) (harg12 : arg12.IsWhole) (arg13 : Memref sig .tc .vmem S512x117 .bf16) (harg13 : arg13.IsWhole) (arg14 : Memref sig .tc .vmem S1x117 .f32) (harg14 : arg14.IsWhole) (arg15 : Memref sig .tc .vmem S512x117 .f32) (harg15 : arg15.IsWhole)
    (x0 : Vec F S512x256 .f32) (x1 : Vec F S512x300 .f32) (x2 : Vec F S512x256 .bf16) (x3 : Vec F S512x300 .bf16) (x4 : Vec F S512x1 .i32) (x5 : Vec F S256x512 .bf16) (x6 : Vec F S300x512 .bf16) (x7 : Vec F S256x512 .bf16) (x8 : Vec F S300x512 .bf16) (x9 : Vec F S1x512 .f32) (x10 : Vec F S512x117 .bf16) (x11 : Vec F S1x117 .f32) (x12 : Vec F S512x117 .bf16) (x13 : Vec F S1x117 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (denseOut x0 x1 x2 x3 x4 x5 x6 x7 x8 x9 x10 x11 x12 x13)) -∗ K ⟨⟩))
      ⊢ wp frame (wpE (defs₀ (F := F)) Variants.none c none) E (cc1__dense_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__dense_kernel_eq_skeleton]; unfold cc1__dense_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  refine (View.read_writes_eq_canon _ _ _ (denseOut_cover _)).trans ?_
  exact denseOut_canon _ _ _ _ _ _ _ _ _ _ _ _ _ _

/-! ## The proof data of pipeline 1, at the contents `V` its region is entered with -/

/-- Window `w`'s block at point `t`, the part inside its array, as the region finds it. -/
def blk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The same filled out to a whole buffer with any words. -/
def full1 (V : (c : Dev nD) → (b : Ref sig .tc) → Buf (Elt F) ((c : Thread nD τ).loc b)) (c : Dev nD) (w : Fin cfg1.W) (t : Fin cfg1.N) :
    (cfg1.win w).block.Idx → Elt F (cfg1.win w).elt :=
  (cfg1.win w).fill (cfg1.grid.coords t) (fun _ => Classical.arbitrary _) (blk1 V c w t)

/-- After the body each input's buffer still holds its block, and each output's what `o` says. -/
def dat1 (V : (c : Dev nD) → (b : Ref sig .tc) → Buf (Elt F) ((c : Thread nD τ).loc b)) (o14 : (c : Dev nD) → Fin cfg1.N → Vec F S512x117 .f32) (c : Dev nD) : Dat τ (Elt F) Unit ℕ U ℕ cfg1 c where
  A w := V c (Pipeline.arrRef spec1 w)
  after w t := match w with
    | ⟨0, _⟩ => full1 V c 0 t
    | ⟨1, _⟩ => full1 V c 1 t
    | ⟨2, _⟩ => full1 V c 2 t
    | ⟨3, _⟩ => full1 V c 3 t
    | ⟨4, _⟩ => full1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => blk1 V c 13 t
    | ⟨14, _⟩ => o14 c t
  Φ _ := Pipeline.ΦA spec1 c
  q _ := fullShare
  owed _ := 0

variable (V : (c : Dev nD) → (b : Ref sig .tc) → Buf (Elt F) ((c : Thread nD τ).loc b)) (o14 : (c : Dev nD) → Fin cfg1.N → Vec F S512x117 .f32)

theorem dat1_A (c : Dev nD) (w : Fin cfg1.W) : ((dat1 (U := U) V o14) c).A w = V c (Pipeline.arrRef spec1 w) := by dsimp only [dat1]

theorem after1_0 (c : Dev nD) (t : Fin cfg1.N) : ((dat1 (U := U) V o14) c).after 0 t = full1 V c 0 t := by dsimp only [dat1]
theorem after1_1 (c : Dev nD) (t : Fin cfg1.N) : ((dat1 (U := U) V o14) c).after 1 t = full1 V c 1 t := by dsimp only [dat1]
theorem after1_2 (c : Dev nD) (t : Fin cfg1.N) : ((dat1 (U := U) V o14) c).after 2 t = full1 V c 2 t := by dsimp only [dat1]
theorem after1_3 (c : Dev nD) (t : Fin cfg1.N) : ((dat1 (U := U) V o14) c).after 3 t = full1 V c 3 t := by dsimp only [dat1]
theorem after1_4 (c : Dev nD) (t : Fin cfg1.N) : ((dat1 (U := U) V o14) c).after 4 t = full1 V c 4 t := by dsimp only [dat1]
theorem after1_5 (c : Dev nD) (t : Fin cfg1.N) : ((dat1 (U := U) V o14) c).after 5 t = blk1 V c 5 t := by dsimp only [dat1]
theorem after1_6 (c : Dev nD) (t : Fin cfg1.N) : ((dat1 (U := U) V o14) c).after 6 t = blk1 V c 6 t := by dsimp only [dat1]
theorem after1_7 (c : Dev nD) (t : Fin cfg1.N) : ((dat1 (U := U) V o14) c).after 7 t = blk1 V c 7 t := by dsimp only [dat1]
theorem after1_8 (c : Dev nD) (t : Fin cfg1.N) : ((dat1 (U := U) V o14) c).after 8 t = blk1 V c 8 t := by dsimp only [dat1]
theorem after1_9 (c : Dev nD) (t : Fin cfg1.N) : ((dat1 (U := U) V o14) c).after 9 t = blk1 V c 9 t := by dsimp only [dat1]
theorem after1_10 (c : Dev nD) (t : Fin cfg1.N) : ((dat1 (U := U) V o14) c).after 10 t = blk1 V c 10 t := by dsimp only [dat1]
theorem after1_11 (c : Dev nD) (t : Fin cfg1.N) : ((dat1 (U := U) V o14) c).after 11 t = blk1 V c 11 t := by dsimp only [dat1]
theorem after1_12 (c : Dev nD) (t : Fin cfg1.N) : ((dat1 (U := U) V o14) c).after 12 t = blk1 V c 12 t := by dsimp only [dat1]
theorem after1_13 (c : Dev nD) (t : Fin cfg1.N) : ((dat1 (U := U) V o14) c).after 13 t = blk1 V c 13 t := by dsimp only [dat1]
theorem after1_14 (c : Dev nD) (t : Fin cfg1.N) : ((dat1 (U := U) V o14) c).after 14 t = o14 c t := by dsimp only [dat1]

theorem before1_0 (c : Dev nD) (t : Fin cfg1.N) (d) : ((dat1 (U := U) V o14) c).before 0 t d = (cfg1.win 0).fill (cfg1.grid.coords t) d (blk1 V c 0 t) := by
  unfold Dat.before; rw [if_pos (fetch1_0 t)]; rfl
theorem cut1_0 (c : Dev nD) (t : Fin cfg1.N) : (cfg1.win 0).cut (cfg1.grid.coords t) (((dat1 (U := U) V o14) c).after 0 t) = blk1 V c 0 t := by
  rw [after1_0]; exact (cfg1.win 0).cut_fill _ _ _
theorem before1_1 (c : Dev nD) (t : Fin cfg1.N) (d) : ((dat1 (U := U) V o14) c).before 1 t d = (cfg1.win 1).fill (cfg1.grid.coords t) d (blk1 V c 1 t) := by
  unfold Dat.before; rw [if_pos (fetch1_1 t)]; rfl
theorem cut1_1 (c : Dev nD) (t : Fin cfg1.N) : (cfg1.win 1).cut (cfg1.grid.coords t) (((dat1 (U := U) V o14) c).after 1 t) = blk1 V c 1 t := by
  rw [after1_1]; exact (cfg1.win 1).cut_fill _ _ _
theorem before1_2 (c : Dev nD) (t : Fin cfg1.N) (d) : ((dat1 (U := U) V o14) c).before 2 t d = (cfg1.win 2).fill (cfg1.grid.coords t) d (blk1 V c 2 t) := by
  unfold Dat.before; rw [if_pos (fetch1_2 t)]; rfl
theorem cut1_2 (c : Dev nD) (t : Fin cfg1.N) : (cfg1.win 2).cut (cfg1.grid.coords t) (((dat1 (U := U) V o14) c).after 2 t) = blk1 V c 2 t := by
  rw [after1_2]; exact (cfg1.win 2).cut_fill _ _ _
theorem before1_3 (c : Dev nD) (t : Fin cfg1.N) (d) : ((dat1 (U := U) V o14) c).before 3 t d = (cfg1.win 3).fill (cfg1.grid.coords t) d (blk1 V c 3 t) := by
  unfold Dat.before; rw [if_pos (fetch1_3 t)]; rfl
theorem cut1_3 (c : Dev nD) (t : Fin cfg1.N) : (cfg1.win 3).cut (cfg1.grid.coords t) (((dat1 (U := U) V o14) c).after 3 t) = blk1 V c 3 t := by
  rw [after1_3]; exact (cfg1.win 3).cut_fill _ _ _
theorem before1_4 (c : Dev nD) (t : Fin cfg1.N) (d) : ((dat1 (U := U) V o14) c).before 4 t d = (cfg1.win 4).fill (cfg1.grid.coords t) d (blk1 V c 4 t) := by
  unfold Dat.before; rw [if_pos (fetch1_4 t)]; rfl
theorem cut1_4 (c : Dev nD) (t : Fin cfg1.N) : (cfg1.win 4).cut (cfg1.grid.coords t) (((dat1 (U := U) V o14) c).after 4 t) = blk1 V c 4 t := by
  rw [after1_4]; exact (cfg1.win 4).cut_fill _ _ _
theorem before1_5 (c : Dev nD) (t : Fin cfg1.N) (d) : ((dat1 (U := U) V o14) c).before 5 t d = blk1 V c 5 t :=
  (((dat1 (U := U) V o14) c).before_in_eq_fetched 5 rfl (fun _ => rfl) (fun _ _ _ => rfl) (fun t => by rw [after1_5]; rfl) t d).trans rfl
theorem before1_6 (c : Dev nD) (t : Fin cfg1.N) (d) : ((dat1 (U := U) V o14) c).before 6 t d = blk1 V c 6 t :=
  (((dat1 (U := U) V o14) c).before_in_eq_fetched 6 rfl (fun _ => rfl) (fun _ _ _ => rfl) (fun t => by rw [after1_6]; rfl) t d).trans rfl
theorem before1_7 (c : Dev nD) (t : Fin cfg1.N) (d) : ((dat1 (U := U) V o14) c).before 7 t d = blk1 V c 7 t :=
  (((dat1 (U := U) V o14) c).before_in_eq_fetched 7 rfl (fun _ => rfl) (fun _ _ _ => rfl) (fun t => by rw [after1_7]; rfl) t d).trans rfl
theorem before1_8 (c : Dev nD) (t : Fin cfg1.N) (d) : ((dat1 (U := U) V o14) c).before 8 t d = blk1 V c 8 t :=
  (((dat1 (U := U) V o14) c).before_in_eq_fetched 8 rfl (fun _ => rfl) (fun _ _ _ => rfl) (fun t => by rw [after1_8]; rfl) t d).trans rfl
theorem before1_9 (c : Dev nD) (t : Fin cfg1.N) (d) : ((dat1 (U := U) V o14) c).before 9 t d = blk1 V c 9 t :=
  (((dat1 (U := U) V o14) c).before_in_eq_fetched 9 rfl (fun _ => rfl) (fun _ _ _ => rfl) (fun t => by rw [after1_9]; rfl) t d).trans rfl
theorem before1_10 (c : Dev nD) (t : Fin cfg1.N) (d) : ((dat1 (U := U) V o14) c).before 10 t d = blk1 V c 10 t :=
  (((dat1 (U := U) V o14) c).before_in_eq_fetched 10 rfl (fun _ => rfl) (fun _ _ _ => rfl) (fun t => by rw [after1_10]; rfl) t d).trans rfl
theorem before1_11 (c : Dev nD) (t : Fin cfg1.N) (d) : ((dat1 (U := U) V o14) c).before 11 t d = blk1 V c 11 t :=
  (((dat1 (U := U) V o14) c).before_in_eq_fetched 11 rfl (fun _ => rfl) (fun _ _ _ => rfl) (fun t => by rw [after1_11]; rfl) t d).trans rfl
theorem before1_12 (c : Dev nD) (t : Fin cfg1.N) (d) : ((dat1 (U := U) V o14) c).before 12 t d = blk1 V c 12 t :=
  (((dat1 (U := U) V o14) c).before_in_eq_fetched 12 rfl (fun _ => rfl) (fun _ _ _ => rfl) (fun t => by rw [after1_12]; rfl) t d).trans rfl
theorem before1_13 (c : Dev nD) (t : Fin cfg1.N) (d) : ((dat1 (U := U) V o14) c).before 13 t d = blk1 V c 13 t :=
  (((dat1 (U := U) V o14) c).before_in_eq_fetched 13 rfl (fun _ => rfl) (fun _ _ _ => rfl) (fun t => by rw [after1_13]; rfl) t d).trans rfl

theorem row1 (t : Fin cfg1.N) :
    defs₀ (F := F) .tc cfg1.body (cfg1.bodyArgs t (cfg1.slots t)) = bodyAt1 t := by
  unfold defs₀; rw [Defs.onTc_tc]

/-- The output windows' contents left unnamed. -/
def fgt1 : Fin cfg1.W → Bool := fun w => decide (14 ≤ w.val)

def pre1F (c : Dev nD) (t : Fin cfg1.N) : sProp 𝕄 :=
  iprop(((dat1 (U := U) V o14) c).Φ t.castSucc ∗ ((dat1 (U := U) V o14) c).owesAt () t.castSucc ∗ (∃ d, owns (c : Thread nD τ) (st1_0 t) fullShare (((dat1 (U := U) V o14) c).before 0 t d)) ∗ (∃ d, owns (c : Thread nD τ) (st1_1 t) fullShare (((dat1 (U := U) V o14) c).before 1 t d)) ∗ (∃ d, owns (c : Thread nD τ) (st1_2 t) fullShare (((dat1 (U := U) V o14) c).before 2 t d)) ∗ (∃ d, owns (c : Thread nD τ) (st1_3 t) fullShare (((dat1 (U := U) V o14) c).before 3 t d)) ∗ (∃ d, owns (c : Thread nD τ) (st1_4 t) fullShare (((dat1 (U := U) V o14) c).before 4 t d)) ∗ (∃ d, owns (c : Thread nD τ) (st1_5 t) fullShare (((dat1 (U := U) V o14) c).before 5 t d)) ∗ (∃ d, owns (c : Thread nD τ) (st1_6 t) fullShare (((dat1 (U := U) V o14) c).before 6 t d)) ∗ (∃ d, owns (c : Thread nD τ) (st1_7 t) fullShare (((dat1 (U := U) V o14) c).before 7 t d)) ∗ (∃ d, owns (c : Thread nD τ) (st1_8 t) fullShare (((dat1 (U := U) V o14) c).before 8 t d)) ∗ (∃ d, owns (c : Thread nD τ) (st1_9 t) fullShare (((dat1 (U := U) V o14) c).before 9 t d)) ∗ (∃ d, owns (c : Thread nD τ) (st1_10 t) fullShare (((dat1 (U := U) V o14) c).before 10 t d)) ∗ (∃ d, owns (c : Thread nD τ) (st1_11 t) fullShare (((dat1 (U := U) V o14) c).before 11 t d)) ∗ (∃ d, owns (c : Thread nD τ) (st1_12 t) fullShare (((dat1 (U := U) V o14) c).before 12 t d)) ∗ (∃ d, owns (c : Thread nD τ) (st1_13 t) fullShare (((dat1 (U := U) V o14) c).before 13 t d)) ∗ (∃ X, owns (c : Thread nD τ) (st1_14 t) fullShare X))
def post1F (c : Dev nD) (t : Fin cfg1.N) : sProp 𝕄 :=
  iprop(((dat1 (U := U) V o14) c).Φ t.succ ∗ ((dat1 (U := U) V o14) c).owesAt () t.succ ∗ (∃ d, owns (c : Thread nD τ) (st1_0 t) fullShare ((cfg1.win 0).fill (cfg1.grid.coords t) d ((cfg1.win 0).cut (cfg1.grid.coords t) (((dat1 (U := U) V o14) c).after 0 t)))) ∗ (∃ d, owns (c : Thread nD τ) (st1_1 t) fullShare ((cfg1.win 1).fill (cfg1.grid.coords t) d ((cfg1.win 1).cut (cfg1.grid.coords t) (((dat1 (U := U) V o14) c).after 1 t)))) ∗ (∃ d, owns (c : Thread nD τ) (st1_2 t) fullShare ((cfg1.win 2).fill (cfg1.grid.coords t) d ((cfg1.win 2).cut (cfg1.grid.coords t) (((dat1 (U := U) V o14) c).after 2 t)))) ∗ (∃ d, owns (c : Thread nD τ) (st1_3 t) fullShare ((cfg1.win 3).fill (cfg1.grid.coords t) d ((cfg1.win 3).cut (cfg1.grid.coords t) (((dat1 (U := U) V o14) c).after 3 t)))) ∗ (∃ d, owns (c : Thread nD τ) (st1_4 t) fullShare ((cfg1.win 4).fill (cfg1.grid.coords t) d ((cfg1.win 4).cut (cfg1.grid.coords t) (((dat1 (U := U) V o14) c).after 4 t)))) ∗ owns (c : Thread nD τ) (st1_5 t) fullShare (((dat1 (U := U) V o14) c).after 5 t) ∗ owns (c : Thread nD τ) (st1_6 t) fullShare (((dat1 (U := U) V o14) c).after 6 t) ∗ owns (c : Thread nD τ) (st1_7 t) fullShare (((dat1 (U := U) V o14) c).after 7 t) ∗ owns (c : Thread nD τ) (st1_8 t) fullShare (((dat1 (U := U) V o14) c).after 8 t) ∗ owns (c : Thread nD τ) (st1_9 t) fullShare (((dat1 (U := U) V o14) c).after 9 t) ∗ owns (c : Thread nD τ) (st1_10 t) fullShare (((dat1 (U := U) V o14) c).after 10 t) ∗ owns (c : Thread nD τ) (st1_11 t) fullShare (((dat1 (U := U) V o14) c).after 11 t) ∗ owns (c : Thread nD τ) (st1_12 t) fullShare (((dat1 (U := U) V o14) c).after 12 t) ∗ owns (c : Thread nD τ) (st1_13 t) fullShare (((dat1 (U := U) V o14) c).after 13 t) ∗ (∃ X, owns (c : Thread nD τ) (st1_14 t) fullShare X))

set_option maxHeartbeats 1000000 in
theorem step1F (c : Dev nD) (t : Fin cfg1.N) :
    pre1F (U := U) V o14 c t ⊢ wp frame (wpE (defs₀ (F := F)) Variants.none c none) Set.univ (bodyAt1 t) (fun _ => post1F (U := U) V o14 c t) := by
  unfold pre1F post1F bodyAt1
  rw [cut1_0, cut1_1, cut1_2, cut1_3, cut1_4]
  rw [show ((dat1 (U := U) V o14) c).Φ t.succ = ((dat1 (U := U) V o14) c).Φ t.castSucc from rfl,
    show ((dat1 (U := U) V o14) c).owesAt () t.succ = ((dat1 (U := U) V o14) c).owesAt () t.castSucc from rfl,
    after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [before1_0 V o14 c t d0, before1_1 V o14 c t d1, before1_2 V o14 c t d2, before1_3 V o14 c t d3, before1_4 V o14 c t d4, before1_5 V o14 c t d5, before1_6 V o14 c t d6, before1_7 V o14 c t d7, before1_8 V o14 c t d8, before1_9 V o14 c t d9, before1_10 V o14 c t d10, before1_11 V o14 c t d11, before1_12 V o14 c t d12, before1_13 V o14 c t d13]
  iapply (body1 (U := U) c Set.univ (grid1.coords t) _ _ _ _ _ _ _ _ _ _ _ _ _ _ _ _ _ _ _ _ _ _ _ _ _ _ _ _ _ _ ((cfg1.win 0).fill (cfg1.grid.coords t) d0 (blk1 V c 0 t)) ((cfg1.win 1).fill (cfg1.grid.coords t) d1 (blk1 V c 1 t)) ((cfg1.win 2).fill (cfg1.grid.coords t) d2 (blk1 V c 2 t)) ((cfg1.win 3).fill (cfg1.grid.coords t) d3 (blk1 V c 3 t)) ((cfg1.win 4).fill (cfg1.grid.coords t) d4 (blk1 V c 4 t)) (blk1 V c 5 t) (blk1 V c 6 t) (blk1 V c 7 t) (blk1 V c 8 t) (blk1 V c 9 t) (blk1 V c 10 t) (blk1 V c 11 t) (blk1 V c 12 t) (blk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _; iexact H14

theorem oblig1F (c : Dev nD) :
    BodyObligationLoose ((dat1 (U := U) V o14) c) (defs₀ (F := F)) Variants.none () Set.univ fgt1 := fun t => by
  rw [bigSep_W1, bigSep_W1, row1]
  exact triple_restated (step1F V o14 c t) rfl .rfl fun _ => .rfl

def pre1E (c : Dev nD) (t : Fin cfg1.N) : sProp 𝕄 :=
  iprop(((dat1 (U := U) V o14) c).Φ t.castSucc ∗ ((dat1 (U := U) V o14) c).owesAt () t.castSucc ∗ (∃ d, owns (c : Thread nD τ) (st1_0 t) fullShare (((dat1 (U := U) V o14) c).before 0 t d)) ∗ (∃ d, owns (c : Thread nD τ) (st1_1 t) fullShare (((dat1 (U := U) V o14) c).before 1 t d)) ∗ (∃ d, owns (c : Thread nD τ) (st1_2 t) fullShare (((dat1 (U := U) V o14) c).before 2 t d)) ∗ (∃ d, owns (c : Thread nD τ) (st1_3 t) fullShare (((dat1 (U := U) V o14) c).before 3 t d)) ∗ (∃ d, owns (c : Thread nD τ) (st1_4 t) fullShare (((dat1 (U := U) V o14) c).before 4 t d)) ∗ (∃ d, owns (c : Thread nD τ) (st1_5 t) fullShare (((dat1 (U := U) V o14) c).before 5 t d)) ∗ (∃ d, owns (c : Thread nD τ) (st1_6 t) fullShare (((dat1 (U := U) V o14) c).before 6 t d)) ∗ (∃ d, owns (c : Thread nD τ) (st1_7 t) fullShare (((dat1 (U := U) V o14) c).before 7 t d)) ∗ (∃ d, owns (c : Thread nD τ) (st1_8 t) fullShare (((dat1 (U := U) V o14) c).before 8 t d)) ∗ (∃ d, owns (c : Thread nD τ) (st1_9 t) fullShare (((dat1 (U := U) V o14) c).before 9 t d)) ∗ (∃ d, owns (c : Thread nD τ) (st1_10 t) fullShare (((dat1 (U := U) V o14) c).before 10 t d)) ∗ (∃ d, owns (c : Thread nD τ) (st1_11 t) fullShare (((dat1 (U := U) V o14) c).before 11 t d)) ∗ (∃ d, owns (c : Thread nD τ) (st1_12 t) fullShare (((dat1 (U := U) V o14) c).before 12 t d)) ∗ (∃ d, owns (c : Thread nD τ) (st1_13 t) fullShare (((dat1 (U := U) V o14) c).before 13 t d)) ∗ (∃ d, owns (c : Thread nD τ) (st1_14 t) fullShare (((dat1 (U := U) V o14) c).before 14 t d)))
def post1E (c : Dev nD) (t : Fin cfg1.N) : sProp 𝕄 :=
  iprop(((dat1 (U := U) V o14) c).Φ t.succ ∗ ((dat1 (U := U) V o14) c).owesAt () t.succ ∗ (∃ d, owns (c : Thread nD τ) (st1_0 t) fullShare ((cfg1.win 0).fill (cfg1.grid.coords t) d ((cfg1.win 0).cut (cfg1.grid.coords t) (((dat1 (U := U) V o14) c).after 0 t)))) ∗ (∃ d, owns (c : Thread nD τ) (st1_1 t) fullShare ((cfg1.win 1).fill (cfg1.grid.coords t) d ((cfg1.win 1).cut (cfg1.grid.coords t) (((dat1 (U := U) V o14) c).after 1 t)))) ∗ (∃ d, owns (c : Thread nD τ) (st1_2 t) fullShare ((cfg1.win 2).fill (cfg1.grid.coords t) d ((cfg1.win 2).cut (cfg1.grid.coords t) (((dat1 (U := U) V o14) c).after 2 t)))) ∗ (∃ d, owns (c : Thread nD τ) (st1_3 t) fullShare ((cfg1.win 3).fill (cfg1.grid.coords t) d ((cfg1.win 3).cut (cfg1.grid.coords t) (((dat1 (U := U) V o14) c).after 3 t)))) ∗ (∃ d, owns (c : Thread nD τ) (st1_4 t) fullShare ((cfg1.win 4).fill (cfg1.grid.coords t) d ((cfg1.win 4).cut (cfg1.grid.coords t) (((dat1 (U := U) V o14) c).after 4 t)))) ∗ owns (c : Thread nD τ) (st1_5 t) fullShare (((dat1 (U := U) V o14) c).after 5 t) ∗ owns (c : Thread nD τ) (st1_6 t) fullShare (((dat1 (U := U) V o14) c).after 6 t) ∗ owns (c : Thread nD τ) (st1_7 t) fullShare (((dat1 (U := U) V o14) c).after 7 t) ∗ owns (c : Thread nD τ) (st1_8 t) fullShare (((dat1 (U := U) V o14) c).after 8 t) ∗ owns (c : Thread nD τ) (st1_9 t) fullShare (((dat1 (U := U) V o14) c).after 9 t) ∗ owns (c : Thread nD τ) (st1_10 t) fullShare (((dat1 (U := U) V o14) c).after 10 t) ∗ owns (c : Thread nD τ) (st1_11 t) fullShare (((dat1 (U := U) V o14) c).after 11 t) ∗ owns (c : Thread nD τ) (st1_12 t) fullShare (((dat1 (U := U) V o14) c).after 12 t) ∗ owns (c : Thread nD τ) (st1_13 t) fullShare (((dat1 (U := U) V o14) c).after 13 t) ∗ (∃ d, owns (c : Thread nD τ) (st1_14 t) fullShare ((cfg1.win 14).fill (cfg1.grid.coords t) d ((cfg1.win 14).cut (cfg1.grid.coords t) (((dat1 (U := U) V o14) c).after 14 t)))))

set_option maxHeartbeats 1000000 in
theorem step1E (c : Dev nD)
    (h14 : ∀ (t : Fin cfg1.N) d0 d1 d2 d3 d4, (cfg1.win 14).cut (cfg1.grid.coords t) (denseOut ((cfg1.win 0).fill (cfg1.grid.coords t) d0 (blk1 V c 0 t)) ((cfg1.win 1).fill (cfg1.grid.coords t) d1 (blk1 V c 1 t)) ((cfg1.win 2).fill (cfg1.grid.coords t) d2 (blk1 V c 2 t)) ((cfg1.win 3).fill (cfg1.grid.coords t) d3 (blk1 V c 3 t)) ((cfg1.win 4).fill (cfg1.grid.coords t) d4 (blk1 V c 4 t)) (blk1 V c 5 t) (blk1 V c 6 t) (blk1 V c 7 t) (blk1 V c 8 t) (blk1 V c 9 t) (blk1 V c 10 t) (blk1 V c 11 t) (blk1 V c 12 t) (blk1 V c 13 t)) = (cfg1.win 14).cut (cfg1.grid.coords t) (o14 c t)) (t : Fin cfg1.N) :
    pre1E (U := U) V o14 c t ⊢ wp frame (wpE (defs₀ (F := F)) Variants.none c none) Set.univ (bodyAt1 t) (fun _ => post1E (U := U) V o14 c t) := by
  unfold pre1E post1E bodyAt1
  rw [cut1_0, cut1_1, cut1_2, cut1_3, cut1_4]
  rw [show ((dat1 (U := U) V o14) c).Φ t.succ = ((dat1 (U := U) V o14) c).Φ t.castSucc from rfl,
    show ((dat1 (U := U) V o14) c).owesAt () t.succ = ((dat1 (U := U) V o14) c).owesAt () t.castSucc from rfl,
    after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [before1_0 V o14 c t d0, before1_1 V o14 c t d1, before1_2 V o14 c t d2, before1_3 V o14 c t d3, before1_4 V o14 c t d4, before1_5 V o14 c t d5, before1_6 V o14 c t d6, before1_7 V o14 c t d7, before1_8 V o14 c t d8, before1_9 V o14 c t d9, before1_10 V o14 c t d10, before1_11 V o14 c t d11, before1_12 V o14 c t d12, before1_13 V o14 c t d13]
  iapply (body1 (U := U) c Set.univ (grid1.coords t) _ _ _ _ _ _ _ _ _ _ _ _ _ _ _ _ _ _ _ _ _ _ _ _ _ _ _ _ _ _ ((cfg1.win 0).fill (cfg1.grid.coords t) d0 (blk1 V c 0 t)) ((cfg1.win 1).fill (cfg1.grid.coords t) d1 (blk1 V c 1 t)) ((cfg1.win 2).fill (cfg1.grid.coords t) d2 (blk1 V c 2 t)) ((cfg1.win 3).fill (cfg1.grid.coords t) d3 (blk1 V c 3 t)) ((cfg1.win 4).fill (cfg1.grid.coords t) d4 (blk1 V c 4 t)) (blk1 V c 5 t) (blk1 V c 6 t) (blk1 V c 7 t) (blk1 V c 8 t) (blk1 V c 9 t) (blk1 V c 10 t) (blk1 V c 11 t) (blk1 V c 12 t) (blk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists (denseOut ((cfg1.win 0).fill (cfg1.grid.coords t) d0 (blk1 V c 0 t)) ((cfg1.win 1).fill (cfg1.grid.coords t) d1 (blk1 V c 1 t)) ((cfg1.win 2).fill (cfg1.grid.coords t) d2 (blk1 V c 2 t)) ((cfg1.win 3).fill (cfg1.grid.coords t) d3 (blk1 V c 3 t)) ((cfg1.win 4).fill (cfg1.grid.coords t) d4 (blk1 V c 4 t)) (blk1 V c 5 t) (blk1 V c 6 t) (blk1 V c 7 t) (blk1 V c 8 t) (blk1 V c 9 t) (blk1 V c 10 t) (blk1 V c 11 t) (blk1 V c 12 t) (blk1 V c 13 t)); rw [← h14 t d0 d1 d2 d3 d4, (cfg1.win 14).fill_cut]; iexact H14

theorem oblig1E (c : Dev nD)
    (h14 : ∀ (t : Fin cfg1.N) d0 d1 d2 d3 d4, (cfg1.win 14).cut (cfg1.grid.coords t) (denseOut ((cfg1.win 0).fill (cfg1.grid.coords t) d0 (blk1 V c 0 t)) ((cfg1.win 1).fill (cfg1.grid.coords t) d1 (blk1 V c 1 t)) ((cfg1.win 2).fill (cfg1.grid.coords t) d2 (blk1 V c 2 t)) ((cfg1.win 3).fill (cfg1.grid.coords t) d3 (blk1 V c 3 t)) ((cfg1.win 4).fill (cfg1.grid.coords t) d4 (blk1 V c 4 t)) (blk1 V c 5 t) (blk1 V c 6 t) (blk1 V c 7 t) (blk1 V c 8 t) (blk1 V c 9 t) (blk1 V c 10 t) (blk1 V c 11 t) (blk1 V c 12 t) (blk1 V c 13 t)) = (cfg1.win 14).cut (cfg1.grid.coords t) (o14 c t)) :
    BodyObligationLoose ((dat1 (U := U) V o14) c) (defs₀ (F := F)) Variants.none () Set.univ := fun t => by
  rw [bigSep_W1, bigSep_W1, row1]
  exact triple_restated (step1E V o14 c h14 t) rfl .rfl fun _ => .rfl

end Bodies

end Cert.KernelIdeal.Run

end
-- ==== Proof.IdealRun.lean ====
/- Every run of `Cert.KernelIdeal`'s program ends with its arguments as launched and every semaphore counter at zero.

   What the first region leaves in its two outputs is not named: past the rows of the arrays its last block's staging
   buffers hold whatever was there. So between two of the program's stretches the thread's state says only that the
   buffers hold SOME contents with the arguments as launched (`Args`), and the second region is entered with its proof
   data taken at those contents. -/
module

public import proofs.«01_k».proof.Proof.IdealBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- Two copies of the pipelines' bookkeeping: the launch keeps the first, the regions below use the second. -/
abbrev UU := UR sig nD τ × UR sig nD τ

local notation "𝕄" => MT nD τ sig Unit (Elt F) ℕ UU ℕ

abbrev EP : Emb (URounds (GSem nD τ sig) Unit) 𝕄 := embR

/-! ## The arguments -/

/-- The program's arguments. -/
abbrev argRefs : List (Ref sig .tc) := [main_arg0, main_arg1, main_arg2, main_arg3, main_arg4, main_arg5, main_arg6, main_arg7, main_arg8, main_arg9, main_arg10, main_arg11, main_arg12]

/-- Contents that agree on the arguments. -/
def Args (x y : Valuation τ sig (Elt F)) : Prop := ∀ a ∈ argRefs, x (Proc.devRef .tc a) = y (Proc.devRef .tc a)

theorem host0_fresh : (hostOps0 : List (HloOp τ sig (Elt F))).Forall fun op => op.fresh = ∅ := by
  simp only [List.Forall]; repeat' constructor
/-- What each operation before the first region writes, in order. -/
abbrev host0_W : List (Ref sig .tc) := [main_v0, main_v1, main_v2, main_v3, main_v4, main_v5, main_v6, main_v7, main_v8, main_v9, main_v10, main_v11, main_v12, main_v13, main_v14, main_v15, main_v16, main_v17, main_v18, main_v19]
theorem host0_writes : (hostOps0 : List (HloOp τ sig (Elt F))).Forall fun op => op.writes ⊆ (host0_W.map (Proc.devRef (τ := τ) .tc)).toFinset :=
  StableHlo.forall_writes_sub_of_map rfl
theorem host0_args : ∀ a ∈ argRefs, a ∉ host0_W := ListAll.forall_mem_of_all_decide (by decide +kernel)

theorem host1_fresh : (hostOps1 : List (HloOp τ sig (Elt F))).Forall fun op => op.fresh = ∅ := by
  simp only [List.Forall]; repeat' constructor
/-- What each operation between the two regions writes, in order. -/
abbrev host1_W : List (Ref sig .tc) := [main_v21, main_v22, main_v23, main_v24, main_v25, main_v26, main_v27, main_v28, main_v29, main_v30, main_v31]
theorem host1_writes : (hostOps1 : List (HloOp τ sig (Elt F))).Forall fun op => op.writes ⊆ (host1_W.map (Proc.devRef (τ := τ) .tc)).toFinset :=
  StableHlo.forall_writes_sub_of_map rfl
theorem host1_args : ∀ a ∈ argRefs, a ∉ host1_W := ListAll.forall_mem_of_all_decide (by decide +kernel)

/-- An argument among a region's arrays is an input's. -/
theorem argsIn0 : ∀ a ∈ argRefs, ∀ w : Fin cfg0.W, Pipeline.arrRef spec0 w = a → fgt0 w = false :=
  ListAll.forall_mem_of_all_decide (by decide +kernel)
theorem argsIn1 : ∀ a ∈ argRefs, ∀ w : Fin cfg1.W, Pipeline.arrRef spec1 w = a → fgt1 w = false :=
  ListAll.forall_mem_of_all_decide (by decide +kernel)

/-! ## The proof data at given contents -/

/-- Some element. -/
def any_ (e : EltTy) : Elt F e := Classical.arbitrary _

/-- Contents as a region's proof data take them. -/
abbrev at_ (x : Dev nD → Valuation τ sig (Elt F)) : (c : Dev nD) → (b : Ref sig .tc) → Buf (Elt F) ((c : Thread nD τ).loc b) :=
  fun c b => x c (Proc.devRef .tc b)

abbrev adm : (p : Fin 2) → (pcfgs (F := F) p).Adm := fun p => (cfgs p).toPCfg_adm

def pd (x : Dev nD → Valuation τ sig (Elt F)) : (p : Fin 2) → (c : Dev nD) → Dat τ (Elt F) Unit ℕ UU ℕ (Pipeline.pin (pcfgs (F := F)) adm p) c
  | ⟨0, _⟩ => fun c => dat0 (at_ x) (fun _ _ _ => any_ _) (fun _ _ _ => any_ _) c
  | ⟨1, _⟩ => fun c => dat1 (at_ x) (fun _ _ _ => any_ _) c

def fg : (p : Fin 2) → Fin (Pipeline.pin (pcfgs (F := F)) adm p).W → Bool
  | ⟨0, _⟩ => fgt0
  | ⟨1, _⟩ => fgt1

/-- The same with the outputs' contents forgotten. -/
abbrev rd (x : Dev nD → Valuation τ sig (Elt F)) := Pipeline.toRsF (nD := nD) (τ := τ) (Ix := Unit) (Name := ℕ) (U := UU) (Lvl := ℕ) (pcfgs (F := F)) adm (pd x) (fg (F := F))

abbrev 𝒱₀ : Variants := Variants.none
abbrev L : GSem nD τ sig → Finset Unit := fun _ => ∅
abbrev lv : GSem nD τ sig → Unit → ℕ := fun _ _ => 0
/-- What rides beside the buffers: the core's generator register at some state, and that it owes nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem argRefs_uc : ∀ a ∈ argRefs, ¬ (Proc.devRef .tc a : DevRef τ sig).isScoped :=
  ListAll.forall_mem_of_all_decide (by decide +kernel)

/-! ## The two regions -/

theorem keep0 (x : Dev nD → Valuation τ sig (Elt F)) (c : Dev nD)
    (A : (w : Fin cfg0.W) → Buf (Elt F) ((cfg0.win w).arr.view.loc (c.tc : Thread nD τ)))
    (hA : ∀ w, fgt0 w = false → A w = (pd x 0 c).arrAt w cfg0.N) :
    Args (Pipeline.withArrays spec0 c (x c) A) (x c) := fun a ha => by
  by_cases hw : ∃ w : Fin cfg0.W, Pipeline.arrRef spec0 w = a
  · obtain ⟨w, rfl⟩ := hw
    have h := argsIn0 _ ha w rfl
    have ho : (cfg0.win w).isOut = false := by revert h; revert w; decide
    rw [Pipeline.withArrays_arr spec0 launch0.win.arr_inj c _ _ w, hA w h, (pd x 0 c).arrAt_in w ho]
    exact dat0_A (at_ x) (fun _ _ _ => any_ _) (fun _ _ _ => any_ _) c w
  · exact Pipeline.withArrays_of_ne spec0 c _ _ a fun w e => hw ⟨w, e⟩

set_option backward.isDefEq.respectTransparency.types false in
/-- Region 0 entered from the contents `x`: left at some contents with the same arguments. -/
def reg0 (x : Dev nD → Valuation τ sig (Elt F)) : Pipeline.RDat.RegionSeg (pcfgs (F := F)) adm (rd x) () defs₀ 𝒱₀ L lv 0 where
  win := launch0.win.to₀
  block_pos := launch0.block_pos
  stage_whole := launch0.stage_whole
  K := PEmpty
  osem k := k.elim
  ho := Pipeline.OwnSemFacts.none _
  hbody c := (oblig0F (at_ x) (fun _ _ _ => any_ _) (fun _ _ _ => any_ _) c).toRForget
  hwaits := Pipeline.RDat.hwaits_of_owed_zero _ _ _ _ L lv 0 fun _ _ => rfl
  pre c := iprop(StableHlo.held (c : Thread nD τ) (Pipeline.ucRefs τ sig) (x c) ∗ R c)
  post c := iprop(∃ y, ⌜Args y (x c)⌝ ∗ StableHlo.held (c : Thread nD τ) (Pipeline.ucRefs τ sig) y ∗ R c)
  X c := iprop(∃ r, prngReg c r)
  Y c := iprop(∃ r, prngReg c r)
  Z c := Pipeline.unscopedRest (Ix := Unit) (Name := ℕ) (U := UU) (Lvl := ℕ) spec0 c (at_ x c)
  hentry c := by
    rw [Pipeline.ownSems0_none]
    have hsplit := Pipeline.arrays_of_unscopedBufs (p := 0) (pcfgs (F := F)) adm (pd x) launch0.win launch0.arr_whole c
      ((pd x 0 c).share_full fun _ => rfl) (at_ x c) (dat0_A (at_ x) (fun _ _ _ => any_ _) (fun _ _ _ => any_ _) c)
    rw [Pipeline.unscopedBufs_held] at hsplit
    show _ ⊢ |={Set.univ}=> iprop((pd x 0 c).arrays ((pd x 0 c).arrAt · 0) ∗ _ ∗ (pd x 0 c).owesAt () 0 ∗ _ ∗ _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rd x 0 c).Φ 0 = Pipeline.ΦA spec0 c from rfl]; unfold Pipeline.ΦA
    iintro ⟨Hp, -, Hr⟩
    isplitl [Hr]; · iexact Hr
    iexact Hp
  hout c := by
    rw [Pipeline.ownSems0_none, show (rd x 0 c).Φ (Fin.last _) = Pipeline.ΦA spec0 c from rfl]; unfold Pipeline.ΦA
    iintro ⟨Hr, Hp⟩
    isplitl [Hp]; · iexact Hp
    isplitr; · iempintro
    iexact Hr
  hexit c := by
    show iprop(((pd x 0 c).toRForget fgt0).arraysAt cfg0.N ∗ (pd x 0 c).owesAt () (Fin.last cfg0.N) ∗ _ ∗ _) ⊢ _
    iintro ⟨Ha, HO, HY, Hrest⟩
    ihave Ha := ((pd x 0 c).arraysAt_forget fgt0 cfg0.N) $$ Ha
    icases Ha with ⟨%A, %hA, Ha⟩
    have hjoin := Pipeline.unscopedBufs_of_arrays (p := 0) (pcfgs (F := F)) adm (Ix := Unit) (Name := ℕ) (U := UU) (Lvl := ℕ)
      launch0.win launch0.arr_whole c (pd x) ((pd x 0 c).share_full fun _ => rfl)
      (at_ x c) (fun b => Pipeline.withArrays spec0 c (x c) A (Proc.devRef .tc b)) A
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    imodintro
    iexists (Pipeline.withArrays spec0 c (x c) A)
    isplitr; · ipureintro; exact keep0 x c A hA
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem keep1 (x : Dev nD → Valuation τ sig (Elt F)) (c : Dev nD)
    (A : (w : Fin cfg1.W) → Buf (Elt F) ((cfg1.win w).arr.view.loc (c.tc : Thread nD τ)))
    (hA : ∀ w, fgt1 w = false → A w = (pd x 1 c).arrAt w cfg1.N) :
    Args (Pipeline.withArrays spec1 c (x c) A) (x c) := fun a ha => by
  by_cases hw : ∃ w : Fin cfg1.W, Pipeline.arrRef spec1 w = a
  · obtain ⟨w, rfl⟩ := hw
    have h := argsIn1 _ ha w rfl
    have ho : (cfg1.win w).isOut = false := by revert h; revert w; decide
    rw [Pipeline.withArrays_arr spec1 launch1.win.arr_inj c _ _ w, hA w h, (pd x 1 c).arrAt_in w ho]
    exact dat1_A (at_ x) (fun _ _ _ => any_ _) c w
  · exact Pipeline.withArrays_of_ne spec1 c _ _ a fun w e => hw ⟨w, e⟩

set_option backward.isDefEq.respectTransparency.types false in
/-- Region 1 entered from the contents `x`: left at some contents with the same arguments. -/
def reg1 (x : Dev nD → Valuation τ sig (Elt F)) : Pipeline.RDat.RegionSeg (pcfgs (F := F)) adm (rd x) () defs₀ 𝒱₀ L lv 1 where
  win := launch1.win.to₀
  block_pos := launch1.block_pos
  stage_whole := launch1.stage_whole
  K := PEmpty
  osem k := k.elim
  ho := Pipeline.OwnSemFacts.none _
  hbody c := (oblig1F (at_ x) (fun _ _ _ => any_ _) c).toRForget
  hwaits := Pipeline.RDat.hwaits_of_owed_zero _ _ _ _ L lv 1 fun _ _ => rfl
  pre c := iprop(StableHlo.held (c : Thread nD τ) (Pipeline.ucRefs τ sig) (x c) ∗ R c)
  post c := iprop(∃ y, ⌜Args y (x c)⌝ ∗ StableHlo.held (c : Thread nD τ) (Pipeline.ucRefs τ sig) y ∗ R c)
  X c := iprop(∃ r, prngReg c r)
  Y c := iprop(∃ r, prngReg c r)
  Z c := Pipeline.unscopedRest (Ix := Unit) (Name := ℕ) (U := UU) (Lvl := ℕ) spec1 c (at_ x c)
  hentry c := by
    rw [Pipeline.ownSems0_none]
    have hsplit := Pipeline.arrays_of_unscopedBufs (p := 1) (pcfgs (F := F)) adm (pd x) launch1.win launch1.arr_whole c
      ((pd x 1 c).share_full fun _ => rfl) (at_ x c) (dat1_A (at_ x) (fun _ _ _ => any_ _) c)
    rw [Pipeline.unscopedBufs_held] at hsplit
    show _ ⊢ |={Set.univ}=> iprop((pd x 1 c).arrays ((pd x 1 c).arrAt · 0) ∗ _ ∗ (pd x 1 c).owesAt () 0 ∗ _ ∗ _)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rd x 1 c).Φ 0 = Pipeline.ΦA spec1 c from rfl]; unfold Pipeline.ΦA
    iintro ⟨Hp, -, Hr⟩
    isplitl [Hr]; · iexact Hr
    iexact Hp
  hout c := by
    rw [Pipeline.ownSems0_none, show (rd x 1 c).Φ (Fin.last _) = Pipeline.ΦA spec1 c from rfl]; unfold Pipeline.ΦA
    iintro ⟨Hr, Hp⟩
    isplitl [Hp]; · iexact Hp
    isplitr; · iempintro
    iexact Hr
  hexit c := by
    show iprop(((pd x 1 c).toRForget fgt1).arraysAt cfg1.N ∗ (pd x 1 c).owesAt () (Fin.last cfg1.N) ∗ _ ∗ _) ⊢ _
    iintro ⟨Ha, HO, HY, Hrest⟩
    ihave Ha := ((pd x 1 c).arraysAt_forget fgt1 cfg1.N) $$ Ha
    icases Ha with ⟨%A, %hA, Ha⟩
    have hjoin := Pipeline.unscopedBufs_of_arrays (p := 1) (pcfgs (F := F)) adm (Ix := Unit) (Name := ℕ) (U := UU) (Lvl := ℕ)
      launch1.win launch1.arr_whole c (pd x) ((pd x 1 c).share_full fun _ => rfl)
      (at_ x c) (fun b => Pipeline.withArrays spec1 c (x c) A (Proc.devRef .tc b)) A
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    imodintro
    iexists (Pipeline.withArrays spec1 c (x c) A)
    isplitr; · ipureintro; exact keep1 x c A hA
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program's stretches, over contents known only to have the arguments as launched -/

section Launch

variable (m : (ℓ : Loc nD τ sig) → Buf (Elt F) ℓ) (ρ : Dev nD → PrngReg)

/-- The launch contents of core `c`. -/
abbrev start (c : Dev nD) : Valuation τ sig (Elt F) := fun b => m ((c : Dev nD), b)

/-- Between two stretches: some contents with the arguments as launched. -/
abbrev St (c : Dev nD) : sProp 𝕄 :=
  iprop(∃ x, ⌜Args x (start m c)⌝ ∗ StableHlo.held (c : Thread nD τ) (Pipeline.ucRefs τ sig) x ∗ R c)

/-- Pipeline `p`'s bookkeeping on core `c`. -/
abbrev Gh (p : Fin 2) (c : Dev nD) : sProp 𝕄 :=
  iprop(Pipeline.cellsGhost (Pipeline.pin (pcfgs (F := F)) adm) EP p c ∗ Pipeline.toksInit (Pipeline.pin (pcfgs (F := F)) adm) EP p c)

/-- A stretch of host operations that writes no argument. -/
def hostSeg (ops : List (HloOp τ sig (Elt F))) (hsub : ops.Forall fun op => op.bufs ⊆ StableHlo.tcRefs τ sig)
    (hfresh : ops.Forall fun op => op.fresh = ∅) (W : List (Ref sig .tc))
    (hW : ops.Forall fun op => op.writes ⊆ (W.map (Proc.devRef (τ := τ) .tc)).toFinset) (hargs : ∀ a ∈ argRefs, a ∉ W) (X : Dev nD → sProp 𝕄) :
    Pipeline.HostSeg (Name := ℕ) (U := UU) (pcfgs (F := F)) defs₀ 𝒱₀ L lv where
  prog := StableHlo.seq ops
  pre c := iprop(St m c ∗ X c)
  post c := iprop(St m c ∗ X c)
  run c β k K := by
    iintro ⟨Hk, Hbd, ⟨⟨%x, %hx, Hh, HR⟩, HX⟩, Hl⟩
    have h := (Pipeline.HostSeg.ofOps (Name := ℕ) (U := UU) (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => x) R).run c k K
    dsimp only [Pipeline.HostSeg.ofOps] at h
    iapply h
    isplitl [Hk HX]
    · iintro ⟨Hbd, Hh, HR⟩
      iapply Hk
      isplitl [Hbd]; · iexact Hbd
      isplitr [HX]
      · iexists (StableHlo.after ops x)
        isplitr
        · ipureintro
          exact fun a ha => (StableHlo.after_of_writes_sub ops x hW (hargs a ha)).trans (hx a ha)
        isplitl [Hh]; · iexact Hh
        iexact HR
      iexact HX
    isplitl [Hbd]; · iexact Hbd
    isplitl [Hh HR]
    · isplitl [Hh]; · iexact Hh
      iexact HR
    iexact Hl

set_option backward.isDefEq.respectTransparency.types false in
/-- Region 0 as a stretch: entered with its proof data at whatever the buffers hold. -/
def regSeg0 (X : Dev nD → sProp 𝕄) : Pipeline.HostSeg (Name := ℕ) (U := UU) (pcfgs (F := F)) defs₀ 𝒱₀ L lv where
  prog := Prog.lift (.customCall (Pipeline.entry 0) ())
  pre c := iprop(St m c ∗ Gh 0 c ∗ X c)
  post c := iprop(St m c ∗ X c)
  run c β k K' := by
    iintro ⟨Hk, Hbd, ⟨⟨%x, %hx, Hh, HR⟩, ⟨Hg, Ht⟩, HX⟩, Hl⟩
    have h := Pipeline.RDat.RegionSeg.wp (pcfgs (F := F)) adm (rd fun _ => x) () cellOf_inj EP defs₀ 𝒱₀ L lv (reg0 fun _ => x) c none
      (fun _ h => nomatch h) k K'
    dsimp only [reg0] at h
    iapply h
    isplitl [Hk HX]
    · iintro ⟨Hbd, ⟨%y, %hy, Hh, HR⟩⟩
      iapply Hk
      isplitl [Hbd]; · iexact Hbd
      isplitr [HX]
      · iexists y
        isplitr; · ipureintro; exact fun a ha => (hy a ha).trans (hx a ha)
        isplitl [Hh]; · iexact Hh
        iexact HR
      iexact HX
    isplitl [Hbd]; · iexact Hbd
    isplitl [Hh HR]
    · isplitl [Hh]; · iexact Hh
      iexact HR
    isplitl [Hl]; · iexact Hl
    isplitl [Hg]; · iexact Hg
    iexact Ht

set_option backward.isDefEq.respectTransparency.types false in
/-- Region 1 as a stretch: entered with its proof data at whatever the buffers hold. -/
def regSeg1 (X : Dev nD → sProp 𝕄) : Pipeline.HostSeg (Name := ℕ) (U := UU) (pcfgs (F := F)) defs₀ 𝒱₀ L lv where
  prog := Prog.lift (.customCall (Pipeline.entry 1) ())
  pre c := iprop(St m c ∗ Gh 1 c ∗ X c)
  post c := iprop(St m c ∗ X c)
  run c β k K' := by
    iintro ⟨Hk, Hbd, ⟨⟨%x, %hx, Hh, HR⟩, ⟨Hg, Ht⟩, HX⟩, Hl⟩
    have h := Pipeline.RDat.RegionSeg.wp (pcfgs (F := F)) adm (rd fun _ => x) () cellOf_inj EP defs₀ 𝒱₀ L lv (reg1 fun _ => x) c none
      (fun _ h => nomatch h) k K'
    dsimp only [reg1] at h
    iapply h
    isplitl [Hk HX]
    · iintro ⟨Hbd, ⟨%y, %hy, Hh, HR⟩⟩
      iapply Hk
      isplitl [Hbd]; · iexact Hbd
      isplitr [HX]
      · iexists y
        isplitr; · ipureintro; exact fun a ha => (hy a ha).trans (hx a ha)
        isplitl [Hh]; · iexact Hh
        iexact HR
      iexact HX
    isplitl [Hbd]; · iexact Hbd
    isplitl [Hh HR]
    · isplitl [Hh]; · iexact Hh
      iexact HR
    isplitl [Hl]; · iexact Hl
    isplitl [Hg]; · iexact Hg
    iexact Ht

/-- The program's four stretches. -/
abbrev segs : List (Pipeline.Seg (pcfgs (F := F)) adm (pd (start m)) () defs₀ 𝒱₀ L lv) :=
  [ .host (hostSeg m hostOps0 hostOps0_sub host0_fresh host0_W host0_writes host0_args fun c => iprop(Gh 0 c ∗ Gh 1 c)),
    .host (regSeg0 m fun c => Gh 1 c),
    .host (hostSeg m hostOps1 hostOps1_sub host1_fresh host1_W host1_writes host1_args fun c => Gh 1 c),
    .host (regSeg1 m fun _ => iprop(emp)) ]

theorem main_run (c : Dev nD) : main (F := F) c = Pipeline.Seg.run (segs m) := (main_chain c).trans (by chain_rfl)

theorem no_unscoped : ∀ sm : SemLoc sig, sm.isScoped .tc = true := by decide

/-- The launch deals each core both pipelines' bookkeeping. -/
theorem deal : (BI.own (EP (F := F) (initOf (Pipeline.cells cfgs cellOf_inj) (Pipeline.launchToks cfgs cellOf_inj))) : sProp 𝕄)
    ⊢ |==> bigSep Finset.univ fun c : Dev nD => iprop(Gh (F := F) 0 c ∗ Gh (F := F) 1 c) := by
  refine (Pipeline.fund_ghost (Pipeline.pin (pcfgs (F := F)) adm) EP cellOf_inj).trans (BI.bupd_mono ?_)
  have e (f : Fin 2 → sProp 𝕄) : bigSep Finset.univ f ⊢ iprop(f 0 ∗ f 1) := by
    rw [show (Finset.univ : Finset (Fin 2)) = insert 0 {1} from rfl, BI.bigSep_insert (by decide), BI.bigSep_singleton]
    exact .rfl
  refine Entails.trans ?_ (bigSep_mono fun c _ => show iprop((Pipeline.cellsGhost (Pipeline.pin (pcfgs (F := F)) adm) EP 0 c ∗ Pipeline.cellsGhost (Pipeline.pin (pcfgs (F := F)) adm) EP 1 c)
      ∗ (Pipeline.toksInit (Pipeline.pin (pcfgs (F := F)) adm) EP 0 c ∗ Pipeline.toksInit (Pipeline.pin (pcfgs (F := F)) adm) EP 1 c)) ⊢ iprop(Gh (F := F) 0 c ∗ Gh (F := F) 1 c) from by
    iintro ⟨⟨A, B⟩, C, D⟩
    isplitl [A C]
    · isplitl [A]; · iexact A
      iexact C
    isplitl [B]; · iexact B
    iexact D)
  rw [bigSep_sep']
  exact sep_mono (bigSep_mono fun c _ => e _) (bigSep_mono fun c _ => e _)

set_option backward.isDefEq.respectTransparency.types false in
/-- Every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pd (start m)) () cellOf_inj embL defs₀ 𝒱₀ L lv m ρ main (segs m)
    (fun c Q => by rw [main_run m c])
    (by simp only [segs, Pipeline.Seg.pipes_host, Pipeline.Seg.pipes_nil]; decide)
    (O₀ := 0) (hL := fun _ _ => rfl) (G := fun c => iprop(Gh (F := F) 0 c ∗ Gh (F := F) 1 c))
    (u₀ := (initOf (Pipeline.cells cfgs cellOf_inj) (Pipeline.launchToks cfgs cellOf_inj), initOf (Pipeline.cells cfgs cellOf_inj) (Pipeline.launchToks cfgs cellOf_inj)))
    (hu₀ := by
      iintro Hu
      ihave H := (Idealize.ShloMosaic.ownU_pair _ _) $$ Hu
      icases H with ⟨H1, H2⟩
      imod (deal (F := F)) $$ H2 with H2
      imodintro
      isplitl [H1]; · iexact H1
      iexact H2)
    (T₀ := fun c => iprop(St m c ∗ Gh (F := F) 0 c ∗ Gh (F := F) 1 c))
    (Tₙ := fun c => iprop(∃ x, ⌜Args x (start m c)⌝ ∗ StableHlo.held (c : Thread nD τ) (Pipeline.ucRefs τ sig) x))
    (hch := ⟨fun _ => .rfl, fun _ => .rfl, fun _ => .rfl, fun c => (by
        show iprop(St m c ∗ Gh 1 c) ⊢ iprop(St m c ∗ Gh 1 c ∗ emp)
        iintro ⟨H, Hg⟩
        isplitl [H]; · iexact H
        isplitl [Hg]; · iexact Hg
        iempintro), fun c => (by
        show iprop(St m c ∗ emp) ⊢ _
        iintro ⟨⟨%x, %hx, Hh, -, HO⟩, -⟩
        isplitl [Hh]
        · iexists x
          isplitr; · ipureintro; exact hx
          iexact Hh
        iexact HO)⟩)
    (hinit := by
      refine Pipeline.initEach L lv fun c => ?_
      rw [show unscopedBufs c (fun b => m ((c : Thread nD τ).loc b)) = StableHlo.held (c : Thread nD τ) (Pipeline.ucRefs τ sig) (start m c)
        from Pipeline.unscopedBufs_held c (start m c)]
      iintro ⟨⟨Hh, -, HO, -, Hp, HG⟩, -⟩
      imodintro
      isplitr [HG]
      · iexists (start m c)
        isplitr; · ipureintro; exact fun _ _ => rfl
        isplitl [Hh]; · iexact Hh
        isplitl [Hp]; · iexists _; iexact Hp
        iexists ∅; iexact HO
      iexact HG)
    (QY := fun c s => ∀ a ∈ argRefs, s.mem ((c : Thread nD τ).loc a) = m ((c : Thread nD τ).loc a))
    (hfin := fun c s' => by
      iintro ⟨⟨%x, %hx, Hh⟩, HSI⟩
      unfold StableHlo.held
      ihave H := (pointsTo_read_all (Pipeline.ucRefs τ sig) (fun b => (((c : Thread nD τ)).1, b)) x s') $$ [Hh HSI]
      · isplitl [Hh] <;> iassumption
      icases H with ⟨%h, HSI⟩
      imodintro
      isplitr
      · ipureintro
        exact fun a ha => (h _ (mem_uc a (argRefs_uc a ha))).trans (hx a ha)
      iexact HSI)
    (hQ := fun s h hz => ⟨fun c => ⟨h c main_arg0 (by simp), h c main_arg1 (by simp), h c main_arg2 (by simp), h c main_arg3 (by simp), h c main_arg4 (by simp), h c main_arg5 (by simp), h c main_arg6 (by simp), h c main_arg7 (by simp), h c main_arg8 (by simp), h c main_arg9 (by simp), h c main_arg10 (by simp), h c main_arg11 (by simp), h c main_arg12 (by simp)⟩, funext fun g => hz g (.inr (no_unscoped g.2))⟩)

end Launch

end Cert.KernelIdeal.Run

end
-- ==== Proof.IdealExact.lean ====
/- The runs of `Cert.KernelIdeal`'s program with the contents it ends with.

   Each region's outputs are given at every grid point by functions `o7`, `o8`, `o14` of the contents the region is
   entered with; the only thing asked of them is that the bodies store them in the part of the block that lies inside
   the array (`Fits0`, `Fits1`). The buffers' contents are then named at every boundary between the program's stretches
   (`B0` … `B4`), and the run ends with the result at `B4`. -/
module

public import proofs.«01_k».proof.Proof.IdealRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Every core's buffers, as a region is entered with them. -/
abbrev Mem := (c : Dev nD) → (b : Ref sig .tc) → Buf (Elt F) ((c : Thread nD τ).loc b)

variable (o7 : (V : Mem (F := F)) → (c : Dev nD) → Fin cfg0.N → Vec F S408x256 .bf16)
  (o8 : (V : Mem (F := F)) → (c : Dev nD) → Fin cfg0.N → Vec F S408x300 .bf16)
  (o14 : (V : Mem (F := F)) → (c : Dev nD) → Fin cfg1.N → Vec F S512x117 .f32)

/-- The first kernel's body stores `o7` and `o8` inside the arrays, whatever lies past the inputs' rows. -/
structure Fits0 : Prop where
  feat : ∀ (V : Mem (F := F)) (c : Dev nD) (t : Fin cfg0.N) d0 d1 d2,
    (cfg0.win 7).cut (cfg0.grid.coords t) (attnFeat ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)) = (cfg0.win 7).cut (cfg0.grid.coords t) (o7 V c t)
  word : ∀ (V : Mem (F := F)) (c : Dev nD) (t : Fin cfg0.N) d0 d1 d2,
    (cfg0.win 8).cut (cfg0.grid.coords t) (attnWord ((cfg0.win 0).fill (cfg0.grid.coords t) d0 (blk0 V c 0 t)) ((cfg0.win 1).fill (cfg0.grid.coords t) d1 (blk0 V c 1 t)) ((cfg0.win 2).fill (cfg0.grid.coords t) d2 (blk0 V c 2 t)) (blk0 V c 3 t) (blk0 V c 4 t) (blk0 V c 5 t) (blk0 V c 6 t)) = (cfg0.win 8).cut (cfg0.grid.coords t) (o8 V c t)

/-- The second kernel's body stores `o14` inside the array, whatever lies past the inputs' rows. -/
structure Fits1 : Prop where
  out : ∀ (V : Mem (F := F)) (c : Dev nD) (t : Fin cfg1.N) d0 d1 d2 d3 d4,
    (cfg1.win 14).cut (cfg1.grid.coords t) (denseOut ((cfg1.win 0).fill (cfg1.grid.coords t) d0 (blk1 V c 0 t)) ((cfg1.win 1).fill (cfg1.grid.coords t) d1 (blk1 V c 1 t)) ((cfg1.win 2).fill (cfg1.grid.coords t) d2 (blk1 V c 2 t)) ((cfg1.win 3).fill (cfg1.grid.coords t) d3 (blk1 V c 3 t)) ((cfg1.win 4).fill (cfg1.grid.coords t) d4 (blk1 V c 4 t)) (blk1 V c 5 t) (blk1 V c 6 t) (blk1 V c 7 t) (blk1 V c 8 t) (blk1 V c 9 t) (blk1 V c 10 t) (blk1 V c 11 t) (blk1 V c 12 t) (blk1 V c 13 t)) = (cfg1.win 14).cut (cfg1.grid.coords t) (o14 V c t)

section Boundaries

variable (m : (ℓ : Loc nD τ sig) → Buf (Elt F) ℓ)

/-! ## The contents between the program's stretches -/

/-- At launch. -/
abbrev B0 (c : Dev nD) : Valuation τ sig (Elt F) := start m c
/-- As the first region is entered. -/
abbrev B1 (c : Dev nD) : Valuation τ sig (Elt F) := StableHlo.after hostOps0 (B0 m c)
/-- The first region's proof data. -/
abbrev D0 (c : Dev nD) : Dat τ (Elt F) Unit ℕ (UR sig nD τ) ℕ cfg0 c := dat0 (at_ (B1 m)) (o7 (at_ (B1 m))) (o8 (at_ (B1 m))) c
/-- As the first region is left: its arrays as its pipeline leaves them. -/
def B2 (c : Dev nD) : Valuation τ sig (Elt F) :=
  Pipeline.withArrays spec0 c (B1 m c) fun w => (D0 o7 o8 m c).arrAt w cfg0.N
/-- As the second region is entered. -/
abbrev B3 (c : Dev nD) : Valuation τ sig (Elt F) := StableHlo.after hostOps1 (B2 o7 o8 m c)
/-- The second region's proof data. -/
abbrev D1 (c : Dev nD) : Dat τ (Elt F) Unit ℕ (UR sig nD τ) ℕ cfg1 c := dat1 (at_ (B3 o7 o8 m)) (o14 (at_ (B3 o7 o8 m))) c
/-- At the end. -/
def B4 (c : Dev nD) : Valuation τ sig (Elt F) :=
  Pipeline.withArrays spec1 c (B3 o7 o8 m c) fun w => (D1 o7 o8 o14 m c).arrAt w cfg1.N

theorem B2_arr (c : Dev nD) (w : Fin cfg0.W) : B2 o7 o8 m c (Proc.devRef .tc (Pipeline.arrRef spec0 w)) = (D0 o7 o8 m c).arrAt w cfg0.N := by
  unfold B2; exact Pipeline.withArrays_arr spec0 launch0.win.arr_inj c _ _ w
theorem B4_arr (c : Dev nD) (w : Fin cfg1.W) : B4 o7 o8 o14 m c (Proc.devRef .tc (Pipeline.arrRef spec1 w)) = (D1 o7 o8 o14 m c).arrAt w cfg1.N := by
  unfold B4; exact Pipeline.withArrays_arr spec1 launch1.win.arr_inj c _ _ w
theorem B2_ne (c : Dev nD) (b : Ref sig .tc) (hb : ∀ w, Pipeline.arrRef spec0 w ≠ b) : B2 o7 o8 m c (Proc.devRef .tc b) = B1 m c (Proc.devRef .tc b) := by
  unfold B2; exact Pipeline.withArrays_of_ne spec0 c _ _ b hb
theorem B4_ne (c : Dev nD) (b : Ref sig .tc) (hb : ∀ w, Pipeline.arrRef spec1 w ≠ b) : B4 o7 o8 o14 m c (Proc.devRef .tc b) = B3 o7 o8 m c (Proc.devRef .tc b) := by
  unfold B4; exact Pipeline.withArrays_of_ne spec1 c _ _ b hb

/-- The first region changes nothing but its two outputs. -/
theorem B2_keep (c : Dev nD) (r : Ref sig .tc) (h : ∀ w : Fin cfg0.W, Pipeline.arrRef spec0 w = r → (cfg0.win w).isOut = false) :
    B2 o7 o8 m c (Proc.devRef .tc r) = B1 m c (Proc.devRef .tc r) := by
  by_cases hw : ∃ w : Fin cfg0.W, Pipeline.arrRef spec0 w = r
  · obtain ⟨w, rfl⟩ := hw
    exact (B2_arr o7 o8 m c w).trans (((D0 o7 o8 m c).arrAt_in w (h w rfl) _).trans (dat0_A _ _ _ c w))
  · exact B2_ne o7 o8 m c r fun w e => hw ⟨w, e⟩
/-- The second region changes nothing but its output. -/
theorem B4_keep (c : Dev nD) (r : Ref sig .tc) (h : ∀ w : Fin cfg1.W, Pipeline.arrRef spec1 w = r → (cfg1.win w).isOut = false) :
    B4 o7 o8 o14 m c (Proc.devRef .tc r) = B3 o7 o8 m c (Proc.devRef .tc r) := by
  by_cases hw : ∃ w : Fin cfg1.W, Pipeline.arrRef spec1 w = r
  · obtain ⟨w, rfl⟩ := hw
    exact (B4_arr o7 o8 o14 m c w).trans (((D1 o7 o8 o14 m c).arrAt_in w (h w rfl) _).trans (dat1_A _ _ c w))
  · exact B4_ne o7 o8 o14 m c r fun w e => hw ⟨w, e⟩

/-- Every argument among a region's arrays is an input's. -/
theorem argsOut0 : ∀ a ∈ argRefs, ∀ w : Fin cfg0.W, Pipeline.arrRef spec0 w = a → (cfg0.win w).isOut = false :=
  ListAll.forall_mem_of_all_decide (by decide +kernel)
theorem argsOut1 : ∀ a ∈ argRefs, ∀ w : Fin cfg1.W, Pipeline.arrRef spec1 w = a → (cfg1.win w).isOut = false :=
  ListAll.forall_mem_of_all_decide (by decide +kernel)

theorem B1_args (c : Dev nD) : ∀ a ∈ argRefs, B1 m c (Proc.devRef .tc a) = m ((c : Thread nD τ).loc a) := fun a ha =>
  StableHlo.after_of_writes_sub hostOps0 _ host0_writes (host0_args a ha)
theorem B2_args (c : Dev nD) : ∀ a ∈ argRefs, B2 o7 o8 m c (Proc.devRef .tc a) = m ((c : Thread nD τ).loc a) := fun a ha =>
  (B2_keep o7 o8 m c a (argsOut0 a ha)).trans (B1_args m c a ha)
theorem B3_args (c : Dev nD) : ∀ a ∈ argRefs, B3 o7 o8 m c (Proc.devRef .tc a) = m ((c : Thread nD τ).loc a) := fun a ha =>
  (StableHlo.after_of_writes_sub hostOps1 _ host1_writes (host1_args a ha)).trans (B2_args o7 o8 m c a ha)
theorem B4_args (c : Dev nD) : ∀ a ∈ argRefs, B4 o7 o8 o14 m c (Proc.devRef .tc a) = m ((c : Thread nD τ).loc a) := fun a ha =>
  (B4_keep o7 o8 o14 m c a (argsOut1 a ha)).trans (B3_args o7 o8 m c a ha)

/-! ## The two regions -/

/-- The regions' proof data. -/
def pdx : (p : Fin 2) → (c : Dev nD) → Dat τ (Elt F) Unit ℕ (UR sig nD τ) ℕ (Pipeline.pin (pcfgs (F := F)) adm p) c
  | ⟨0, _⟩ => fun c => D0 o7 o8 m c
  | ⟨1, _⟩ => fun c => D1 o7 o8 o14 m c

/-- What rides beside the buffers: the core's generator register at some state, and that it owes nothing. -/
abbrev Rx (c : Dev nD) : sProp 𝕄 := iprop((∃ r, prngReg c r) ∗ ∃ W, owes (c : Thread nD τ) (0 : CellTallies nD τ sig Unit) W)

/-- The state at the end, beside the core owing nothing. -/
abbrev Tx (c : Dev nD) : sProp 𝕄 := iprop(StableHlo.held (c : Thread nD τ) (Pipeline.ucRefs τ sig) (B4 o7 o8 o14 m c) ∗ ∃ r, prngReg c r)

set_option backward.isDefEq.respectTransparency.types false in
/-- Region 0, entered from the contents `B1 m` and left at `B2 o7 o8 m`. -/
def regx0 (hf : Fits0 o7 o8) : Pipeline.RegionSeg (pcfgs (F := F)) adm (pdx o7 o8 o14 m) () defs₀ 𝒱₀ L lv 0 where
  win := launch0.win.to₀
  block_pos := launch0.block_pos
  stage_whole := launch0.stage_whole
  K := PEmpty
  osem k := k.elim
  ho := Pipeline.OwnSemFacts.none _
  hbody c := oblig0E (at_ (B1 m)) _ _ c (hf.feat _ c) (hf.word _ c)
  hwaits := Pipeline.hwaits_of_owed_zero _ _ _ _ L lv 0 fun _ _ => rfl
  pre c := iprop(StableHlo.held (c : Thread nD τ) (Pipeline.ucRefs τ sig) (B1 m c) ∗ Rx c)
  post c := iprop(StableHlo.held (c : Thread nD τ) (Pipeline.ucRefs τ sig) (B2 o7 o8 m c) ∗ Rx c)
  X c := iprop(∃ r, prngReg c r)
  Y c := iprop(∃ r, prngReg c r)
  Z c := Pipeline.unscopedRest (Ix := Unit) (Name := ℕ) (U := UR sig nD τ) (Lvl := ℕ) spec0 c (at_ (B1 m) c)
  hentry c := by
    rw [Pipeline.ownSems0_none]
    have hsplit := Pipeline.arrays_of_unscopedBufs (p := 0) (pcfgs (F := F)) adm (pdx o7 o8 o14 m) launch0.win launch0.arr_whole c
      ((pdx o7 o8 o14 m 0 c).share_full fun _ => rfl) (at_ (B1 m) c) (dat0_A _ _ _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdx o7 o8 o14 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdx o7 o8 o14 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdx o7 o8 o14 m) ((pdx o7 o8 o14 m 0 c).share_full fun _ => rfl)
      (at_ (B1 m) c) (at_ (B2 o7 o8 m) c) ((pdx o7 o8 o14 m 0 c).arrAt · cfg0.N) (fun w => (B2_arr o7 o8 m c w).symm)
      (fun b hb => B2_ne o7 o8 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from the contents `B3 o7 o8 m` and left at `B4 o7 o8 o14 m`. -/
def regx1 (hf : Fits1 o14) : Pipeline.RegionSeg (pcfgs (F := F)) adm (pdx o7 o8 o14 m) () defs₀ 𝒱₀ L lv 1 where
  win := launch1.win.to₀
  block_pos := launch1.block_pos
  stage_whole := launch1.stage_whole
  K := PEmpty
  osem k := k.elim
  ho := Pipeline.OwnSemFacts.none _
  hbody c := oblig1E (at_ (B3 o7 o8 m)) _ c (hf.out _ c)
  hwaits := Pipeline.hwaits_of_owed_zero _ _ _ _ L lv 1 fun _ _ => rfl
  pre c := iprop(StableHlo.held (c : Thread nD τ) (Pipeline.ucRefs τ sig) (B3 o7 o8 m c) ∗ Rx c)
  post c := iprop(Tx o7 o8 o14 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at_ (B3 o7 o8 m) c)
  hentry c := by
    rw [Pipeline.ownSems0_none]
    have hsplit := Pipeline.arrays_of_unscopedBufs (p := 1) (pcfgs (F := F)) adm (pdx o7 o8 o14 m) launch1.win launch1.arr_whole c
      ((pdx o7 o8 o14 m 1 c).share_full fun _ => rfl) (at_ (B3 o7 o8 m) c) (dat1_A _ _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdx o7 o8 o14 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdx o7 o8 o14 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdx o7 o8 o14 m) ((pdx o7 o8 o14 m 1 c).share_full fun _ => rfl)
      (at_ (B3 o7 o8 m) c) (at_ (B4 o7 o8 o14 m) c) ((pdx o7 o8 o14 m 1 c).arrAt · cfg1.N) (fun w => (B4_arr o7 o8 o14 m c w).symm)
      (fun b hb => B4_ne o7 o8 o14 m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program and its launch -/

/-- A stretch of host operations from the contents `W`. -/
abbrev hsegx (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rx

/-- The program's four stretches. -/
abbrev segsx (h0 : Fits0 o7 o8) (h1 : Fits1 o14) : List (Pipeline.Seg (pcfgs (F := F)) adm (pdx o7 o8 o14 m) () defs₀ 𝒱₀ L lv) :=
  [ .host (hsegx hostOps0 hostOps0_sub host0_fresh (B0 m)),
    .region (regx0 o7 o8 o14 m h0),
    .host (hsegx hostOps1 hostOps1_sub host1_fresh (B2 o7 o8 m)),
    .region (regx1 o7 o8 o14 m h1) ]

theorem mainx_run (h0 : Fits0 o7 o8) (h1 : Fits1 o14) (c : Dev nD) : main (F := F) c = Pipeline.Seg.run (segsx o7 o8 o14 m h0 h1) :=
  (main_chain c).trans (by chain_rfl)

set_option backward.isDefEq.respectTransparency.types false in
/-- Every run ends with the result at `B4` and the arguments as launched. -/
theorem exact_run (ρ : Dev nD → PrngReg) (h0 : Fits0 o7 o8) (h1 : Fits1 o14) :
    θ_run defs (onTc (τ := τ) (main (F := F))) ⟨m, fun _ => 0, ρ⟩ (fun r => ∀ c : Dev nD,
      r.2.mem ((c.tc : Thread nD τ).loc main_v32) = B4 o7 o8 o14 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdx o7 o8 o14 m) () cellOf_inj emb₁ defs₀ 𝒱₀ L lv m ρ main (segsx o7 o8 o14 m h0 h1)
    (fun c Q => by rw [mainx_run o7 o8 o14 m h0 h1 c])
    (by simp only [segsx, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rx c)) (Tₙ := Tx o7 o8 o14 m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 o7 o8 o14 m c b)
    (hfin := fun c s' => by
      iintro ⟨⟨Hh, -⟩, HSI⟩
      unfold StableHlo.held
      imodintro
      iapply (pointsTo_read_all (Pipeline.ucRefs τ sig) (fun b => (((c : Thread nD τ)).1, b)) (B4 o7 o8 o14 m c) s')
      isplitl [Hh] <;> iassumption)
    (hQ := fun s h hz c => ⟨h c _ (mem_uc main_v32 (by decide)), (h c _ (mem_uc main_arg0 (by decide))).trans (B4_args o7 o8 o14 m c main_arg0 (by simp)), (h c _ (mem_uc main_arg1 (by decide))).trans (B4_args o7 o8 o14 m c main_arg1 (by simp)), (h c _ (mem_uc main_arg2 (by decide))).trans (B4_args o7 o8 o14 m c main_arg2 (by simp)), (h c _ (mem_uc main_arg3 (by decide))).trans (B4_args o7 o8 o14 m c main_arg3 (by simp)), (h c _ (mem_uc main_arg4 (by decide))).trans (B4_args o7 o8 o14 m c main_arg4 (by simp)), (h c _ (mem_uc main_arg5 (by decide))).trans (B4_args o7 o8 o14 m c main_arg5 (by simp)), (h c _ (mem_uc main_arg6 (by decide))).trans (B4_args o7 o8 o14 m c main_arg6 (by simp)), (h c _ (mem_uc main_arg7 (by decide))).trans (B4_args o7 o8 o14 m c main_arg7 (by simp)), (h c _ (mem_uc main_arg8 (by decide))).trans (B4_args o7 o8 o14 m c main_arg8 (by simp)), (h c _ (mem_uc main_arg9 (by decide))).trans (B4_args o7 o8 o14 m c main_arg9 (by simp)), (h c _ (mem_uc main_arg10 (by decide))).trans (B4_args o7 o8 o14 m c main_arg10 (by simp)), (h c _ (mem_uc main_arg11 (by decide))).trans (B4_args o7 o8 o14 m c main_arg11 (by simp)), (h c _ (mem_uc main_arg12 (by decide))).trans (B4_args o7 o8 o14 m c main_arg12 (by simp))⟩)

end Boundaries

end Cert.KernelIdeal.Run

end
-- ==== Proof.Spec.lean ====
module

public import Idealize.ShloMosaic.Lib.Pointwise

@[expose] public section

noncomputable section

/-! The mathematics of one graph's attention, over the extended reals: seventeen nodes, a score
`z s d` for the edge from `s` to `d`, no edge from a node to itself. -/

namespace Cert.Attn
open Idealize.ShloMosaic

/-- The slope of the leaky rectifier on negative scores. -/
abbrev slope : EReal := Ideal.ofBits .f32 1045220557#32
/-- The small positive number added to each denominator. -/
abbrev eps : EReal := Ideal.ofBits .f32 814313567#32

theorem eps_pos : 0 < eps := by
  have h : eps = ((9007199 * 2 ^ (-53 : ℤ) : ℝ) : EReal) := by
    simp [eps, Ideal.ofBits, Ideal.ieee]
  rw [h]
  exact_mod_cast (by positivity : (0 : ℝ) < 9007199 * 2 ^ (-53 : ℤ))

theorem negInf : Ideal.ofBits .f32 4286578688#32 = ⊥ := by
  simp [Ideal.ofBits, Ideal.ieee]

/-- The leaky rectifier. -/
def leaky (x : EReal) : EReal := if 0 ≤ x then x else slope * x

/-- The rectified score, with the missing edge of a node to itself at the bottom. -/
def masked (z : Fin 17 → Fin 17 → EReal) (s d : Fin 17) : EReal := if s = d then ⊥ else leaky (z s d)

/-- The greatest rectified score into `d`. -/
def top (z : Fin 17 → Fin 17 → EReal) (d : Fin 17) : EReal := Finset.univ.sup fun s => masked z s d

/-- The exponential of the shifted score. -/
def ex (z : Fin 17 → Fin 17 → EReal) (s d : Fin 17) : EReal := Ideal.exp (masked z s d - top z d)

/-- The attention weight of the edge from `s` to `d`. -/
def alpha (z : Fin 17 → Fin 17 → EReal) (s d : Fin 17) : EReal := Ideal.div (ex z s d) (∑ x, ex z x d + eps)

/-- The weighted sum of the values `f` of the seventeen nodes, as node `d` sees it. -/
def agg (z : Fin 17 → Fin 17 → EReal) (f : Fin 17 → EReal) (d : Fin 17) : EReal := ∑ s, alpha z s d * f s

theorem exp_nonneg (x : EReal) : 0 ≤ Ideal.exp x := by
  induction x with
  | bot => exact le_refl _
  | top => exact le_top
  | coe r => exact EReal.coe_nonneg.2 (Real.exp_pos r).le

theorem ex_nonneg (z : Fin 17 → Fin 17 → EReal) (s d : Fin 17) : 0 ≤ ex z s d := exp_nonneg _

theorem ex_self (z : Fin 17 → Fin 17 → EReal) (d : Fin 17) : ex z d d = 0 := by
  unfold ex masked
  rw [if_pos rfl, EReal.bot_sub]
  exact Ideal.exp_bot

theorem alpha_self (z : Fin 17 → Fin 17 → EReal) (d : Fin 17) : alpha z d d = 0 := by
  have h : 0 < ∑ x, ex z x d + eps := lt_of_lt_of_le eps_pos (le_add_of_nonneg_left (Finset.sum_nonneg fun x _ => ex_nonneg z x d))
  unfold alpha Ideal.div
  rw [if_neg h.ne', ex_self, zero_mul]

theorem masked_congr {z z' : Fin 17 → Fin 17 → EReal} (h : ∀ s d, s ≠ d → z s d = z' s d) : masked z = masked z' := by
  funext s d
  unfold masked
  split
  · rfl
  · rw [h _ _ ‹_›]

/-- The weighted sum reads the scores only off the diagonal. -/
theorem agg_congr {z z' : Fin 17 → Fin 17 → EReal} (h : ∀ s d, s ≠ d → z s d = z' s d) {f f' : Fin 17 → EReal}
    (hf : ∀ s, f s = f' s) (d : Fin 17) : agg z f d = agg z' f' d := by
  have hf' : f = f' := funext hf
  unfold agg alpha ex top
  rw [masked_congr h, hf']

/-- The greatest value, written as a fold of the maximum from the bottom. -/
theorem fold_max_sup {ι : Type} (s : Finset ι) (f : ι → EReal) : s.fold max ⊥ f = s.sup f := rfl

/-! ### The numbering of the edges -/

/-- The node an edge comes from. -/
def srcOf (e : ℕ) : ℕ := 17 * (e / 272) + e % 272 / 16

/-- The node an edge goes to. -/
def dstOf (e : ℕ) : ℕ := 17 * (e / 272) + if e % 16 < e % 272 / 16 then e % 16 else e % 16 + 1

/-- The number, within its graph's source node, of the edge to `d`. -/
def slot (s d : ℕ) : ℕ := if d < s then d else d - 1

theorem slot_lt {s d : ℕ} (hs : s < 17) (hd : d < 17) : slot s d < 16 := by
  unfold slot; split <;> omega

/-- The number of the edge from `s` to `d` in graph `g`. -/
def edge (g s d : ℕ) : ℕ := 272 * g + 16 * s + slot s d

theorem edge_lt {g s d : ℕ} (hg : g < 588) (hs : s < 17) (hd : d < 17) : edge g s d < 159936 := by
  have := slot_lt hs hd; unfold edge; omega

theorem srcOf_lt {e : ℕ} (h : e < 159936) : srcOf e < 9996 := by unfold srcOf; omega

theorem dstOf_lt {e : ℕ} (h : e < 159936) : dstOf e < 9996 := by unfold dstOf; split <;> omega

theorem srcOf_edge {g s d : ℕ} (hs : s < 17) (hd : d < 17) : srcOf (edge g s d) = 17 * g + s := by
  have := slot_lt hs hd; unfold srcOf edge; omega

theorem dstOf_edge {g s d : ℕ} (hs : s < 17) (hd : d < 17) (h : s ≠ d) : dstOf (edge g s d) = 17 * g + d := by
  have h16 := slot_lt hs hd
  have h1 : edge g s d % 16 = slot s d := by unfold edge; omega
  have h2 : edge g s d % 272 / 16 = s := by unfold edge; omega
  have h3 : edge g s d / 272 = g := by unfold edge; omega
  unfold dstOf
  rw [h1, h2, h3]
  unfold slot
  split_ifs <;> omega

theorem edge_of {e g s d : ℕ} (hd : d < 17) (h1 : dstOf e = 17 * g + d) (hs : s = e % 272 / 16) :
    edge g s d = e ∧ s ≠ d ∧ e / 272 = g := by
  unfold dstOf at h1
  unfold edge slot
  split_ifs at h1 ⊢ <;> omega

/-- A sum over the edges into a node is a sum over the other sixteen nodes of its graph. -/
theorem sum_edges {M : Type} [AddCommMonoid M] (g : Fin 588) (d : Fin 17) (F : Fin 159936 → M) :
    ∑ e ∈ Finset.univ.filter (fun e : Fin 159936 => dstOf e.val = 17 * g.val + d.val), F e
      = ∑ s : Fin 17, if s = d then 0 else F ⟨edge g s d, edge_lt g.isLt s.isLt d.isLt⟩ := by
  rw [Finset.sum_ite, Finset.sum_const_zero, zero_add]
  symm
  refine Finset.sum_bij' (fun s _ => ⟨edge g s d, edge_lt g.isLt s.isLt d.isLt⟩)
    (fun e _ => ⟨e.val % 272 / 16, by omega⟩) ?_ ?_ ?_ ?_ ?_
  · intro s hs
    rw [Finset.mem_filter] at hs ⊢
    exact ⟨Finset.mem_univ _, dstOf_edge s.isLt d.isLt fun h => hs.2 (Fin.ext h)⟩
  · intro e he
    rw [Finset.mem_filter] at he ⊢
    exact ⟨Finset.mem_univ _, fun h => (edge_of d.isLt he.2 rfl).2.1 (congrArg Fin.val h)⟩
  · intro s hs
    have := slot_lt s.isLt d.isLt
    apply Fin.ext
    show edge g s d % 272 / 16 = s
    unfold edge; omega
  · intro e he
    exact Fin.ext (edge_of d.isLt (Finset.mem_filter.1 he).2 rfl).1
  · intro s hs
    rfl

/-- The same for the greatest value. -/
theorem sup_edges (g : Fin 588) (d : Fin 17) (F : Fin 159936 → EReal) :
    Finset.univ.sup (fun e : Fin 159936 => if 17 * g.val + d.val = dstOf e.val then F e else ⊥)
      = Finset.univ.sup fun s : Fin 17 => if s = d then ⊥ else F ⟨edge g s d, edge_lt g.isLt s.isLt d.isLt⟩ := by
  apply le_antisymm
  · refine Finset.sup_le fun e _ => ?_
    split
    · rename_i h
      obtain ⟨h1, h2, h3⟩ := edge_of (s := e.val % 272 / 16) d.isLt h.symm rfl
      have hs : e.val % 272 / 16 < 17 := by omega
      refine le_trans ?_ (Finset.le_sup (f := fun s : Fin 17 => if s = d then ⊥ else F ⟨edge g s d, edge_lt g.isLt s.isLt d.isLt⟩)
        (Finset.mem_univ (⟨e.val % 272 / 16, hs⟩ : Fin 17)))
      rw [if_neg (fun h => h2 (congrArg Fin.val h))]
      exact le_of_eq (congrArg F (Fin.ext h1.symm))
    · exact bot_le
  · refine Finset.sup_le fun s _ => ?_
    split
    · exact bot_le
    · rename_i h
      refine le_trans ?_ (Finset.le_sup (f := fun e : Fin 159936 => if 17 * g.val + d.val = dstOf e.val then F e else ⊥)
        (Finset.mem_univ ⟨edge g s d, edge_lt g.isLt s.isLt d.isLt⟩))
      rw [if_pos (dstOf_edge s.isLt d.isLt (fun h' => h (Fin.ext h'))).symm]

end Cert.Attn

end
-- ==== Proof.Attn.lean ====
module

public import proofs.«01_k».proof.Proof.Spec
public import proofs.«01_k».proof.Proof.IdealBody
public import Idealize.ShloMosaic.Lib.Pointwise
public import Idealize.ShloMosaic.Lib.ValueIdx

@[expose] public section

set_option maxRecDepth 16384

noncomputable section

/-! What one block of the attention kernel and one block of the dense kernel compute, entry by entry. -/

namespace Cert.KernelIdeal.Run
open Cert.KernelIdeal Cert.KernelIdeal.Gen
open Idealize.ShloMosaic Cert.Attn

/-- The score of the edge from node `s` to node `d` of graph `g` of a block. -/
def blockScore (x0 : FVec Ideal S408x256 .f32) (x1 : FVec Ideal S408x300 .f32) (x2 : FVec Ideal S6528x16 .f32)
    (x3 : FVec Ideal S24x256x2 .f32) (x4 : FVec Ideal S24x300x2 .f32) (x5 : FVec Ideal S1x1x1x16 .f32)
    (x6 : FVec Ideal S1x1 .f32) (g : Fin 24) (s d : Fin 17) : EReal :=
  ((∑ k : Fin 256, x0 (ix2 ⟨g.val * 17 + s.val, by omega⟩ k) * x3 (ix3 g k 0)
      + ∑ k : Fin 300, x1 (ix2 ⟨g.val * 17 + s.val, by omega⟩ k) * x4 (ix3 g k 0))
    + (∑ k : Fin 256, x0 (ix2 ⟨g.val * 17 + d.val, by omega⟩ k) * x3 (ix3 g k 1)
      + ∑ k : Fin 300, x1 (ix2 ⟨g.val * 17 + d.val, by omega⟩ k) * x4 (ix3 g k 1))
    + ∑ k : Fin 16, x2 (ix2 ⟨edge g s d, by have := slot_lt s.isLt d.isLt; unfold edge; omega⟩ k) * x5 (ix4 0 0 0 k))
  + x6 (ix2 0 0)

theorem ofNat_slt (a b : Fin 17) : IntOp.cmpi .slt (BitVec.ofNat 32 a.val) (BitVec.ofNat 32 b.val) = if a.val < b.val then 1#1 else 0#1 := by
  revert a b; decide

theorem ofNat_eq (a b : Fin 17) : IntOp.cmpi .eq (BitVec.ofNat 32 a.val) (BitVec.ofNat 32 b.val) = if a = b then 1#1 else 0#1 := by
  revert a b; decide

theorem select_ite {α : Type} (p : Prop) [Decidable p] (a b : α) : Scalar.select (if p then 1#1 else 0#1) a b = if p then a else b := by
  split <;> rfl

theorem score_apply (x0 : FVec Ideal S408x256 .f32) (x1 : FVec Ideal S408x300 .f32) (x2 : FVec Ideal S6528x16 .f32)
    (x3 : FVec Ideal S24x256x2 .f32) (x4 : FVec Ideal S24x300x2 .f32) (x5 : FVec Ideal S1x1x1x16 .f32)
    (x6 : FVec Ideal S1x1 .f32) (g : Fin 24) (s d : Fin 17) (h : s ≠ d) :
    k0_pay7 (F := Ideal) x3 x4 x5 x0 x1 x2 (ix3 g s d) + x6 (ix2 0 0) = blockScore x0 x1 x2 x3 x4 x5 x6 g s d := by
  have hne : s.val ≠ d.val := fun h' => h (Fin.ext h')
  unfold blockScore
  congr 1
  pointwise [k0_pay7, k0_pay5, k0_pay6]
  rw [ofNat_slt, select_ite, Fin.sum_univ_one]
  congr 1
  split
  · rename_i hlt
    rw [dif_pos (by omega)]
    refine Finset.sum_congr rfl fun k _ => ?_
    congr 3
    apply Fin.ext
    show g.val * 272 + s.val * 16 + d.val = edge g s d
    unfold edge slot; rw [if_pos hlt]; omega
  · rename_i hlt
    rw [dif_neg (by omega)]
    refine Finset.sum_congr rfl fun k _ => ?_
    congr 3
    apply Fin.ext
    show g.val * 272 + s.val * 16 + (d.val - 1) = edge g s d
    unfold edge slot; rw [if_neg hlt]; omega

theorem alpha_apply (b : FVec Ideal S1x1x1 .f32) (p : FVec Ideal S24x17x17 .f32) (z : Fin 17 → Fin 17 → EReal) (g : Fin 24)
    (hz : ∀ s d, s ≠ d → p (ix3 g s d) + b (ix3 0 0 0) = z s d) (s d : Fin 17) :
    k0_pay1 (F := Ideal) b (iota .tc S24x17x17 32 [1] iota_S24x17x17_d1_w32) (iota .tc S24x17x17 32 [2] iota_S24x17x17_d2_w32) p (ix3 g s d)
      = alpha z s d := by
  have hm : ∀ x : Fin 17, Scalar.select (IntOp.cmpi .eq (BitVec.ofNat 32 x.val) (BitVec.ofNat 32 d.val)) (Named.named (F := Ideal) κ "mask" 4048155338#32)
      (if 0 ≤ p (ix3 g x d) + b (ix3 0 0 0) then p (ix3 g x d) + b (ix3 0 0 0)
        else Ideal.ofBits .f32 1045220557#32 * (p (ix3 g x d) + b (ix3 0 0 0))) = masked z x d := by
    intro x
    rw [ofNat_eq, select_ite]
    unfold masked
    split
    · exact IdealRules.named_const.ideal_named_scalar _ _ _ _ rfl
    · rename_i hx
      rw [hz _ _ hx]; rfl
  pointwise [k0_pay1]
  simp only [hm, negInf, fold_max_sup]
  rfl

/-- An entry of the block of aggregated features. -/
theorem attnFeat_apply (x0 : FVec Ideal S408x256 .f32) (x1 : FVec Ideal S408x300 .f32) (x2 : FVec Ideal S6528x16 .f32)
    (x3 : FVec Ideal S24x256x2 .f32) (x4 : FVec Ideal S24x300x2 .f32) (x5 : FVec Ideal S1x1x1x16 .f32)
    (x6 : FVec Ideal S1x1 .f32) (g : Fin 24) (d : Fin 17) (c : Fin 256) :
    attnFeat (F := Ideal) x0 x1 x2 x3 x4 x5 x6 (ix2 ⟨g.val * 17 + d.val, by omega⟩ c)
      = agg (blockScore x0 x1 x2 x3 x4 x5 x6 g) (fun s => x0 (ix2 ⟨g.val * 17 + s.val, by omega⟩ c)) d := by
  unfold attnFeat
  pointwise [k0_pay2]
  unfold agg
  refine Finset.sum_congr rfl fun s _ => ?_
  congr 1
  · exact alpha_apply _ _ _ g (fun s d h => by
      rw [← score_apply x0 x1 x2 x3 x4 x5 x6 g s d h]
      congr 1
      pointwise [k0_pay4]) s d
  · pointwise [k0_pay5]

/-- An entry of the block of aggregated word vectors. -/
theorem attnWord_apply (x0 : FVec Ideal S408x256 .f32) (x1 : FVec Ideal S408x300 .f32) (x2 : FVec Ideal S6528x16 .f32)
    (x3 : FVec Ideal S24x256x2 .f32) (x4 : FVec Ideal S24x300x2 .f32) (x5 : FVec Ideal S1x1x1x16 .f32)
    (x6 : FVec Ideal S1x1 .f32) (g : Fin 24) (d : Fin 17) (c : Fin 300) :
    attnWord (F := Ideal) x0 x1 x2 x3 x4 x5 x6 (ix2 ⟨g.val * 17 + d.val, by omega⟩ c)
      = agg (blockScore x0 x1 x2 x3 x4 x5 x6 g) (fun s => x1 (ix2 ⟨g.val * 17 + s.val, by omega⟩ c)) d := by
  unfold attnWord
  pointwise [k0_pay3]
  unfold agg
  refine Finset.sum_congr rfl fun s _ => ?_
  congr 1
  · exact alpha_apply _ _ _ g (fun s d h => by
      rw [← score_apply x0 x1 x2 x3 x4 x5 x6 g s d h]
      congr 1
      pointwise [k0_pay4]) s d
  · pointwise [k0_pay6]

/-- The hidden layer's unit `x` for one row of node features, aggregated features and words. -/
def hidden (f : Fin 256 → EReal) (w : Fin 300 → EReal) (af : Fin 256 → EReal) (aw : Fin 300 → EReal)
    (x5 : FVec Ideal S256x512 .bf16) (x6 : FVec Ideal S300x512 .bf16) (x7 : FVec Ideal S256x512 .bf16)
    (x8 : FVec Ideal S300x512 .bf16) (x9 : FVec Ideal S1x512 .f32) (x : Fin 512) : EReal :=
  max (∑ k, f k * x5 (ix2 k x) + ∑ k, w k * x6 (ix2 k x) + ∑ k, af k * x7 (ix2 k x) + ∑ k, aw k * x8 (ix2 k x) + x9 (ix2 0 x)) 0

/-- An entry of the block of predictions. -/
theorem denseOut_apply (x0 : FVec Ideal S512x256 .f32) (x1 : FVec Ideal S512x300 .f32) (x2 : FVec Ideal S512x256 .bf16)
    (x3 : FVec Ideal S512x300 .bf16) (x4 : IVec S512x1 32) (x5 : FVec Ideal S256x512 .bf16) (x6 : FVec Ideal S300x512 .bf16)
    (x7 : FVec Ideal S256x512 .bf16) (x8 : FVec Ideal S300x512 .bf16) (x9 : FVec Ideal S1x512 .f32)
    (x10 : FVec Ideal S512x117 .bf16) (x11 : FVec Ideal S1x117 .f32) (x12 : FVec Ideal S512x117 .bf16)
    (x13 : FVec Ideal S1x117 .f32) (r : Fin 512) (c : Fin 117) :
    denseOut (F := Ideal) x0 x1 x2 x3 x4 x5 x6 x7 x8 x9 x10 x11 x12 x13 (ix2 r c)
      = Scalar.select (IntOp.cmpi .eq (x4 (ix2 r 0)) 1#32)
          (∑ x, hidden (fun k => x0 (ix2 r k)) (fun k => x1 (ix2 r k)) (fun k => x2 (ix2 r k)) (fun k => x3 (ix2 r k)) x5 x6 x7 x8 x9 x
            * x10 (ix2 x c) + x11 (ix2 0 c))
          (∑ x, hidden (fun k => x0 (ix2 r k)) (fun k => x1 (ix2 r k)) (fun k => x2 (ix2 r k)) (fun k => x3 (ix2 r k)) x5 x6 x7 x8 x9 x
            * x12 (ix2 x c) + x13 (ix2 0 c)) := by
  pointwise [denseOut, k1_pay1, k1_pay2, k1_pay3]
  rfl

end Cert.KernelIdeal.Run

end
-- ==== Proof.Blocks.lean ====
module

public import proofs.«01_k».proof.Proof.Attn
public import proofs.«01_k».proof.Proof.IdealExact
public import Idealize.ShloMosaic.Lib.Pipeline.ValueKit

@[expose] public section

set_option maxRecDepth 16384

noncomputable section

/-! Where each block's rows sit in their array, and what an input's buffer holds there. -/

namespace Cert.KernelIdeal.Run
open Cert.KernelIdeal Cert.KernelIdeal.Gen
open Idealize.ShloMosaic Idealize.ShloMosaic.TcCoe

/-- The index maps of region 0's windows, at every grid point. -/
theorem idx0 : ∀ t : Fin cfg0.N, win0_0.index t = ![t.val, 0]
    ∧ win0_1.index t = ![t.val, 0]
    ∧ win0_2.index t = ![t.val, 0]
    ∧ win0_3.index t = ![0, 0, 0]
    ∧ win0_4.index t = ![0, 0, 0]
    ∧ win0_5.index t = ![0, 0, 0, 0]
    ∧ win0_6.index t = ![0, 0]
    ∧ win0_7.index t = ![t.val, 0]
    ∧ win0_8.index t = ![t.val, 0] :=
  (by decide +kernel : ∀ t : Fin grid0.N, _)

/-- How much of each block lies inside its array. -/
theorem ext0 : ∀ t : Fin cfg0.N, win0_0.xsize (cfg0.grid.coords t) = ![min 408 (9996 - 408 * t.val), 256]
    ∧ win0_1.xsize (cfg0.grid.coords t) = ![min 408 (9996 - 408 * t.val), 300]
    ∧ win0_2.xsize (cfg0.grid.coords t) = ![min 6528 (159936 - 6528 * t.val), 16]
    ∧ win0_7.xsize (cfg0.grid.coords t) = ![min 408 (9996 - 408 * t.val), 256]
    ∧ win0_8.xsize (cfg0.grid.coords t) = ![min 408 (9996 - 408 * t.val), 300] :=
  (by decide +kernel : ∀ t : Fin grid0.N, _)

/-- The index maps of region 1's windows, at every grid point. -/
theorem idx1 : ∀ t : Fin cfg1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![0, 0]
    ∧ win1_6.index t = ![0, 0]
    ∧ win1_7.index t = ![0, 0]
    ∧ win1_8.index t = ![0, 0]
    ∧ win1_9.index t = ![0, 0]
    ∧ win1_10.index t = ![0, 0]
    ∧ win1_11.index t = ![0, 0]
    ∧ win1_12.index t = ![0, 0]
    ∧ win1_13.index t = ![0, 0]
    ∧ win1_14.index t = ![t.val, 0] :=
  (by decide +kernel : ∀ t : Fin grid1.N, _)

/-- How much of each block lies inside its array. -/
theorem ext1 : ∀ t : Fin cfg1.N, win1_0.xsize (cfg1.grid.coords t) = ![min 512 (9996 - 512 * t.val), 256]
    ∧ win1_1.xsize (cfg1.grid.coords t) = ![min 512 (9996 - 512 * t.val), 300]
    ∧ win1_2.xsize (cfg1.grid.coords t) = ![min 512 (9996 - 512 * t.val), 256]
    ∧ win1_3.xsize (cfg1.grid.coords t) = ![min 512 (9996 - 512 * t.val), 300]
    ∧ win1_4.xsize (cfg1.grid.coords t) = ![min 512 (9996 - 512 * t.val), 1]
    ∧ win1_14.xsize (cfg1.grid.coords t) = ![min 512 (9996 - 512 * t.val), 117] :=
  (by decide +kernel : ∀ t : Fin grid1.N, _)

variable (V : Mem (F := Ideal)) (c : Dev nD)

theorem fill0_0 (t : Fin cfg0.N) (d0) (r : Fin 408) (k : Fin 256) (n : Fin 9996) (h : 408 * t.val + r.val = n.val) :
    ((cfg0.win 0).fill (cfg0.grid.coords t) d0 (blk0 V c 0 t) : FVec Ideal S408x256 .f32) (ix2 r k)
      = (V c main_arg0 : FVec Ideal S9996x256 .f32) (ix2 n k) := by
  have hm : (cfg0.win 0).moved (cfg0.grid.coords t) (ix2 r k : S408x256.Idx) = true := by
    refine ((cfg0.win 0).moved_iff _ _).2 fun a => ?_
    show _ < win0_0.xsize (cfg0.grid.coords t) a
    rw [(ext0 t).1]
    match a with
    | ⟨0, _⟩ => show r.val < min 408 (9996 - 408 * t.val); omega
    | ⟨1, _⟩ => exact k.isLt
  unfold Pipeline.Window.fill
  rw [dif_pos hm]
  blk_ext [blk0, idx0 t]

theorem fill0_1 (t : Fin cfg0.N) (d0) (r : Fin 408) (k : Fin 300) (n : Fin 9996) (h : 408 * t.val + r.val = n.val) :
    ((cfg0.win 1).fill (cfg0.grid.coords t) d0 (blk0 V c 1 t) : FVec Ideal S408x300 .f32) (ix2 r k)
      = (V c main_arg2 : FVec Ideal S9996x300 .f32) (ix2 n k) := by
  have hm : (cfg0.win 1).moved (cfg0.grid.coords t) (ix2 r k : S408x300.Idx) = true := by
    refine ((cfg0.win 1).moved_iff _ _).2 fun a => ?_
    show _ < win0_1.xsize (cfg0.grid.coords t) a
    rw [(ext0 t).2.1]
    match a with
    | ⟨0, _⟩ => show r.val < min 408 (9996 - 408 * t.val); omega
    | ⟨1, _⟩ => exact k.isLt
  unfold Pipeline.Window.fill
  rw [dif_pos hm]
  blk_ext [blk0, idx0 t]

theorem fill0_2 (t : Fin cfg0.N) (d0) (r : Fin 6528) (k : Fin 16) (n : Fin 159936) (h : 6528 * t.val + r.val = n.val) :
    ((cfg0.win 2).fill (cfg0.grid.coords t) d0 (blk0 V c 2 t) : FVec Ideal S6528x16 .f32) (ix2 r k)
      = (V c main_arg1 : FVec Ideal S159936x16 .f32) (ix2 n k) := by
  have hm : (cfg0.win 2).moved (cfg0.grid.coords t) (ix2 r k : S6528x16.Idx) = true := by
    refine ((cfg0.win 2).moved_iff _ _).2 fun a => ?_
    show _ < win0_2.xsize (cfg0.grid.coords t) a
    rw [(ext0 t).2.2.1]
    match a with
    | ⟨0, _⟩ => show r.val < min 6528 (159936 - 6528 * t.val); omega
    | ⟨1, _⟩ => exact k.isLt
  unfold Pipeline.Window.fill
  rw [dif_pos hm]
  blk_ext [blk0, idx0 t]

theorem blk0_3 (t : Fin cfg0.N) (i : S24x256x2.Idx) :
    (blk0 V c 3 t : FVec Ideal S24x256x2 .f32) i = (V c main_v7 : FVec Ideal S24x256x2 .f32) i := by
  blk_ext [blk0, idx0 t]

theorem blk0_4 (t : Fin cfg0.N) (i : S24x300x2.Idx) :
    (blk0 V c 4 t : FVec Ideal S24x300x2 .f32) i = (V c main_v15 : FVec Ideal S24x300x2 .f32) i := by
  blk_ext [blk0, idx0 t]

theorem blk0_5 (t : Fin cfg0.N) (i : S1x1x1x16.Idx) :
    (blk0 V c 5 t : FVec Ideal S1x1x1x16 .f32) i = (V c main_v18 : FVec Ideal S1x1x1x16 .f32) i := by
  blk_ext [blk0, idx0 t]

theorem blk0_6 (t : Fin cfg0.N) (i : S1x1.Idx) :
    (blk0 V c 6 t : FVec Ideal S1x1 .f32) i = (V c main_v19 : FVec Ideal S1x1 .f32) i := by
  blk_ext [blk0, idx0 t]

theorem fill1_0 (t : Fin cfg1.N) (d0) (r : Fin 512) (k : Fin 256) (n : Fin 9996) (h : 512 * t.val + r.val = n.val) :
    ((cfg1.win 0).fill (cfg1.grid.coords t) d0 (blk1 V c 0 t) : FVec Ideal S512x256 .f32) (ix2 r k)
      = (V c main_arg0 : FVec Ideal S9996x256 .f32) (ix2 n k) := by
  have hm : (cfg1.win 0).moved (cfg1.grid.coords t) (ix2 r k : S512x256.Idx) = true := by
    refine ((cfg1.win 0).moved_iff _ _).2 fun a => ?_
    show _ < win1_0.xsize (cfg1.grid.coords t) a
    rw [(ext1 t).1]
    match a with
    | ⟨0, _⟩ => show r.val < min 512 (9996 - 512 * t.val); omega
    | ⟨1, _⟩ => exact k.isLt
  unfold Pipeline.Window.fill
  rw [dif_pos hm]
  blk_ext [blk1, idx1 t]

theorem fill1_1 (t : Fin cfg1.N) (d0) (r : Fin 512) (k : Fin 300) (n : Fin 9996) (h : 512 * t.val + r.val = n.val) :
    ((cfg1.win 1).fill (cfg1.grid.coords t) d0 (blk1 V c 1 t) : FVec Ideal S512x300 .f32) (ix2 r k)
      = (V c main_arg2 : FVec Ideal S9996x300 .f32) (ix2 n k) := by
  have hm : (cfg1.win 1).moved (cfg1.grid.coords t) (ix2 r k : S512x300.Idx) = true := by
    refine ((cfg1.win 1).moved_iff _ _).2 fun a => ?_
    show _ < win1_1.xsize (cfg1.grid.coords t) a
    rw [(ext1 t).2.1]
    match a with
    | ⟨0, _⟩ => show r.val < min 512 (9996 - 512 * t.val); omega
    | ⟨1, _⟩ => exact k.isLt
  unfold Pipeline.Window.fill
  rw [dif_pos hm]
  blk_ext [blk1, idx1 t]

theorem fill1_2 (t : Fin cfg1.N) (d0) (r : Fin 512) (k : Fin 256) (n : Fin 9996) (h : 512 * t.val + r.val = n.val) :
    ((cfg1.win 2).fill (cfg1.grid.coords t) d0 (blk1 V c 2 t) : FVec Ideal S512x256 .bf16) (ix2 r k)
      = (V c main_v20_0 : FVec Ideal S9996x256 .bf16) (ix2 n k) := by
  have hm : (cfg1.win 2).moved (cfg1.grid.coords t) (ix2 r k : S512x256.Idx) = true := by
    refine ((cfg1.win 2).moved_iff _ _).2 fun a => ?_
    show _ < win1_2.xsize (cfg1.grid.coords t) a
    rw [(ext1 t).2.2.1]
    match a with
    | ⟨0, _⟩ => show r.val < min 512 (9996 - 512 * t.val); omega
    | ⟨1, _⟩ => exact k.isLt
  unfold Pipeline.Window.fill
  rw [dif_pos hm]
  blk_ext [blk1, idx1 t]

theorem fill1_3 (t : Fin cfg1.N) (d0) (r : Fin 512) (k : Fin 300) (n : Fin 9996) (h : 512 * t.val + r.val = n.val) :
    ((cfg1.win 3).fill (cfg1.grid.coords t) d0 (blk1 V c 3 t) : FVec Ideal S512x300 .bf16) (ix2 r k)
      = (V c main_v20_1 : FVec Ideal S9996x300 .bf16) (ix2 n k) := by
  have hm : (cfg1.win 3).moved (cfg1.grid.coords t) (ix2 r k : S512x300.Idx) = true := by
    refine ((cfg1.win 3).moved_iff _ _).2 fun a => ?_
    show _ < win1_3.xsize (cfg1.grid.coords t) a
    rw [(ext1 t).2.2.2.1]
    match a with
    | ⟨0, _⟩ => show r.val < min 512 (9996 - 512 * t.val); omega
    | ⟨1, _⟩ => exact k.isLt
  unfold Pipeline.Window.fill
  rw [dif_pos hm]
  blk_ext [blk1, idx1 t]

theorem fill1_4 (t : Fin cfg1.N) (d0) (r : Fin 512) (k : Fin 1) (n : Fin 9996) (h : 512 * t.val + r.val = n.val) :
    ((cfg1.win 4).fill (cfg1.grid.coords t) d0 (blk1 V c 4 t) : IVec S512x1 32) (ix2 r k)
      = (V c main_v21 : IVec S9996x1 32) (ix2 n k) := by
  have hm : (cfg1.win 4).moved (cfg1.grid.coords t) (ix2 r k : S512x1.Idx) = true := by
    refine ((cfg1.win 4).moved_iff _ _).2 fun a => ?_
    show _ < win1_4.xsize (cfg1.grid.coords t) a
    rw [(ext1 t).2.2.2.2.1]
    match a with
    | ⟨0, _⟩ => show r.val < min 512 (9996 - 512 * t.val); omega
    | ⟨1, _⟩ => exact k.isLt
  unfold Pipeline.Window.fill
  rw [dif_pos hm]
  blk_ext [blk1, idx1 t]

theorem blk1_5 (t : Fin cfg1.N) (i : S256x512.Idx) :
    (blk1 V c 5 t : FVec Ideal S256x512 .bf16) i = (V c main_v23 : FVec Ideal S256x512 .bf16) i := by
  blk_ext [blk1, idx1 t]

theorem blk1_6 (t : Fin cfg1.N) (i : S300x512.Idx) :
    (blk1 V c 6 t : FVec Ideal S300x512 .bf16) i = (V c main_v24 : FVec Ideal S300x512 .bf16) i := by
  blk_ext [blk1, idx1 t]

theorem blk1_7 (t : Fin cfg1.N) (i : S256x512.Idx) :
    (blk1 V c 7 t : FVec Ideal S256x512 .bf16) i = (V c main_v25 : FVec Ideal S256x512 .bf16) i := by
  blk_ext [blk1, idx1 t]

theorem blk1_8 (t : Fin cfg1.N) (i : S300x512.Idx) :
    (blk1 V c 8 t : FVec Ideal S300x512 .bf16) i = (V c main_v26 : FVec Ideal S300x512 .bf16) i := by
  blk_ext [blk1, idx1 t]

theorem blk1_9 (t : Fin cfg1.N) (i : S1x512.Idx) :
    (blk1 V c 9 t : FVec Ideal S1x512 .f32) i = (V c main_v27 : FVec Ideal S1x512 .f32) i := by
  blk_ext [blk1, idx1 t]

theorem blk1_10 (t : Fin cfg1.N) (i : S512x117.Idx) :
    (blk1 V c 10 t : FVec Ideal S512x117 .bf16) i = (V c main_v30 : FVec Ideal S512x117 .bf16) i := by
  blk_ext [blk1, idx1 t]

theorem blk1_11 (t : Fin cfg1.N) (i : S1x117.Idx) :
    (blk1 V c 11 t : FVec Ideal S1x117 .f32) i = (V c main_v28 : FVec Ideal S1x117 .f32) i := by
  blk_ext [blk1, idx1 t]

theorem blk1_12 (t : Fin cfg1.N) (i : S512x117.Idx) :
    (blk1 V c 12 t : FVec Ideal S512x117 .bf16) i = (V c main_v31 : FVec Ideal S512x117 .bf16) i := by
  blk_ext [blk1, idx1 t]

theorem blk1_13 (t : Fin cfg1.N) (i : S1x117.Idx) :
    (blk1 V c 13 t : FVec Ideal S1x117 .f32) i = (V c main_v29 : FVec Ideal S1x117 .f32) i := by
  blk_ext [blk1, idx1 t]

end Cert.KernelIdeal.Run

end
-- ==== Proof.Target.lean ====
module

public import proofs.«01_k».proof.Proof.Spec

@[expose] public section

noncomputable section

/-! The whole model, over the extended reals, as plain functions of the argument arrays: 588 graphs of seventeen
nodes, every node of a graph joined to the other sixteen. -/

namespace Cert.Attn
open Idealize.ShloMosaic

/-- The graph of a node, its place in the graph, and the node at a place of a graph. -/
def graphOf (n : Fin 9996) : Fin 588 := ⟨n.val / 17, by omega⟩
def placeOf (n : Fin 9996) : Fin 17 := ⟨n.val % 17, by omega⟩
def nodeOf (G : Fin 588) (s : Fin 17) : Fin 9996 := ⟨17 * G.val + s.val, by omega⟩
/-- The edge from place `s` to place `d` of graph `G`. -/
def edgeOf (G : Fin 588) (s d : Fin 17) : Fin 159936 := ⟨edge G s d, edge_lt G.isLt s.isLt d.isLt⟩

/-- The arguments. -/
structure Data where
  feat : Fin 9996 → Fin 256 → EReal
  spatial : Fin 159936 → Fin 16 → EReal
  word : Fin 9996 → Fin 300 → EReal
  roi : Fin 9996 → BitVec 32
  wAtt : Fin 1128 → EReal
  bAtt : EReal
  wNode : Fin 1112 → Fin 512 → EReal
  bNode : Fin 512 → EReal
  wH : Fin 512 → Fin 117 → EReal
  bH : Fin 117 → EReal
  wO : Fin 512 → Fin 117 → EReal
  bO : Fin 117 → EReal

variable (A : Data)

/-- The score of an edge, before the rectifier. -/
def Data.score (G : Fin 588) (s d : Fin 17) : EReal :=
  ((∑ k : Fin 256, A.feat (nodeOf G s) k * A.wAtt ⟨k.val, by omega⟩
      + ∑ k : Fin 300, A.word (nodeOf G s) k * A.wAtt ⟨256 + k.val, by omega⟩)
    + (∑ k : Fin 256, A.feat (nodeOf G d) k * A.wAtt ⟨556 + k.val, by omega⟩
      + ∑ k : Fin 300, A.word (nodeOf G d) k * A.wAtt ⟨812 + k.val, by omega⟩)
    + ∑ k : Fin 16, A.spatial (edgeOf G s d) k * A.wAtt ⟨1112 + k.val, by omega⟩)
  + A.bAtt

/-- The messages a node receives, summed. -/
def Data.aggFeat (n : Fin 9996) (k : Fin 256) : EReal :=
  agg (A.score (graphOf n)) (fun s => A.feat (nodeOf (graphOf n) s) k) (placeOf n)
def Data.aggWord (n : Fin 9996) (k : Fin 300) : EReal :=
  agg (A.score (graphOf n)) (fun s => A.word (nodeOf (graphOf n) s) k) (placeOf n)

/-- The hidden layer. -/
def Data.hidden (n : Fin 9996) (x : Fin 512) : EReal :=
  max (∑ k : Fin 256, A.feat n k * A.wNode ⟨k.val, by omega⟩ x + ∑ k : Fin 300, A.word n k * A.wNode ⟨256 + k.val, by omega⟩ x
    + ∑ k : Fin 256, A.aggFeat n k * A.wNode ⟨556 + k.val, by omega⟩ x
    + ∑ k : Fin 300, A.aggWord n k * A.wNode ⟨812 + k.val, by omega⟩ x + A.bNode x) 0

/-- The predictions. -/
def Data.pred (n : Fin 9996) (c : Fin 117) : EReal :=
  Scalar.select (IntOp.cmpi .eq (A.roi n) 1#32) (∑ x, A.hidden n x * A.wH x c + A.bH c) (∑ x, A.hidden n x * A.wO x c + A.bO c)

end Cert.Attn

end
-- ==== Proof.Arrays.lean ====
module

public import proofs.«01_k».proof.Proof.Blocks
public import proofs.«01_k».proof.Proof.Target

@[expose] public section

set_option maxRecDepth 16384

noncomputable section

/-! What each kernel leaves in its whole output arrays, in terms of the arrays it reads. -/

namespace Cert.KernelIdeal.Run
open Cert.KernelIdeal Cert.KernelIdeal.Gen
open Idealize.ShloMosaic Idealize.ShloMosaic.TcCoe Cert.Attn
open Idealize.SL Idealize.SL.RA
open Idealize.ShloMosaic.Pipeline (Dat)

/-- The score of the edge from node `s` to node `d` of graph `G`. -/
def arrScore (X0 : FVec Ideal S9996x256 .f32) (X1 : FVec Ideal S9996x300 .f32) (X2 : FVec Ideal S159936x16 .f32)
    (X3 : FVec Ideal S24x256x2 .f32) (X4 : FVec Ideal S24x300x2 .f32) (X5 : FVec Ideal S1x1x1x16 .f32)
    (X6 : FVec Ideal S1x1 .f32) (G : Fin 588) (s d : Fin 17) : EReal :=
  ((∑ k : Fin 256, X0 (ix2 ⟨17 * G.val + s.val, by omega⟩ k) * X3 (ix3 ⟨G.val % 24, by omega⟩ k 0)
      + ∑ k : Fin 300, X1 (ix2 ⟨17 * G.val + s.val, by omega⟩ k) * X4 (ix3 ⟨G.val % 24, by omega⟩ k 0))
    + (∑ k : Fin 256, X0 (ix2 ⟨17 * G.val + d.val, by omega⟩ k) * X3 (ix3 ⟨G.val % 24, by omega⟩ k 1)
      + ∑ k : Fin 300, X1 (ix2 ⟨17 * G.val + d.val, by omega⟩ k) * X4 (ix3 ⟨G.val % 24, by omega⟩ k 1))
    + ∑ k : Fin 16, X2 (ix2 ⟨edge G s d, edge_lt G.isLt s.isLt d.isLt⟩ k) * X5 (ix4 0 0 0 k))
  + X6 (ix2 0 0)

/-- The aggregated features, all nodes. -/
def featArr (X0 : FVec Ideal S9996x256 .f32) (X1 : FVec Ideal S9996x300 .f32) (X2 : FVec Ideal S159936x16 .f32)
    (X3 : FVec Ideal S24x256x2 .f32) (X4 : FVec Ideal S24x300x2 .f32) (X5 : FVec Ideal S1x1x1x16 .f32)
    (X6 : FVec Ideal S1x1 .f32) (n : Fin 9996) (k : Fin 256) : EReal :=
  agg (arrScore X0 X1 X2 X3 X4 X5 X6 (graphOf n)) (fun s => X0 (ix2 (nodeOf (graphOf n) s) k)) (placeOf n)

/-- The aggregated words, all nodes. -/
def wordArr (X0 : FVec Ideal S9996x256 .f32) (X1 : FVec Ideal S9996x300 .f32) (X2 : FVec Ideal S159936x16 .f32)
    (X3 : FVec Ideal S24x256x2 .f32) (X4 : FVec Ideal S24x300x2 .f32) (X5 : FVec Ideal S1x1x1x16 .f32)
    (X6 : FVec Ideal S1x1 .f32) (n : Fin 9996) (k : Fin 300) : EReal :=
  agg (arrScore X0 X1 X2 X3 X4 X5 X6 (graphOf n)) (fun s => X1 (ix2 (nodeOf (graphOf n) s) k)) (placeOf n)

/-- The predictions, all nodes. -/
def predArr (X0 : FVec Ideal S9996x256 .f32) (X1 : FVec Ideal S9996x300 .f32) (X2 : FVec Ideal S9996x256 .bf16)
    (X3 : FVec Ideal S9996x300 .bf16) (X4 : IVec S9996x1 32) (x5 : FVec Ideal S256x512 .bf16) (x6 : FVec Ideal S300x512 .bf16)
    (x7 : FVec Ideal S256x512 .bf16) (x8 : FVec Ideal S300x512 .bf16) (x9 : FVec Ideal S1x512 .f32)
    (x10 : FVec Ideal S512x117 .bf16) (x11 : FVec Ideal S1x117 .f32) (x12 : FVec Ideal S512x117 .bf16)
    (x13 : FVec Ideal S1x117 .f32) (n : Fin 9996) (k : Fin 117) : EReal :=
  Scalar.select (IntOp.cmpi .eq (X4 (ix2 n 0)) 1#32)
    (∑ x, hidden (fun j => X0 (ix2 n j)) (fun j => X1 (ix2 n j)) (fun j => X2 (ix2 n j)) (fun j => X3 (ix2 n j)) x5 x6 x7 x8 x9 x
      * x10 (ix2 x k) + x11 (ix2 0 k))
    (∑ x, hidden (fun j => X0 (ix2 n j)) (fun j => X1 (ix2 n j)) (fun j => X2 (ix2 n j)) (fun j => X3 (ix2 n j)) x5 x6 x7 x8 x9 x
      * x12 (ix2 x k) + x13 (ix2 0 k))

section Attention
variable (V : Mem (F := Ideal)) (c : Dev nD)

theorem blockScore_arr (t : Fin cfg0.N) (d0 d1 d2) (g : Fin 24) (G : Fin 588) (hG : 24 * t.val + g.val = G.val) (s d : Fin 17) :
    blockScore ((cfg0.win 0).fill (cfg0.grid.coords t) d0 (blk0 V c 0 t)) ((cfg0.win 1).fill (cfg0.grid.coords t) d1 (blk0 V c 1 t))
        ((cfg0.win 2).fill (cfg0.grid.coords t) d2 (blk0 V c 2 t)) (blk0 V c 3 t) (blk0 V c 4 t) (blk0 V c 5 t) (blk0 V c 6 t) g s d
      = arrScore (V c main_arg0) (V c main_arg2) (V c main_arg1) (V c main_v7) (V c main_v15) (V c main_v18) (V c main_v19) G s d := by
  have hg : (⟨G.val % 24, by omega⟩ : Fin 24) = g := Fin.ext (by show G.val % 24 = g.val; omega)
  have he : 6528 * t.val + edge g s d = edge G s d := by unfold edge; omega
  unfold blockScore arrScore
  rw [hg]
  refine congrArg₂ _ (congrArg₂ _ (congrArg₂ _ (congrArg₂ _ ?_ ?_) (congrArg₂ _ ?_ ?_)) ?_) ?_
  · exact Finset.sum_congr rfl fun k _ => congrArg₂ _ (fill0_0 V c t d0 _ k _ (by show 408 * t.val + (g.val * 17 + s.val) = 17 * G.val + s.val; omega)) (blk0_3 V c t _)
  · exact Finset.sum_congr rfl fun k _ => congrArg₂ _ (fill0_1 V c t d1 _ k _ (by show 408 * t.val + (g.val * 17 + s.val) = 17 * G.val + s.val; omega)) (blk0_4 V c t _)
  · exact Finset.sum_congr rfl fun k _ => congrArg₂ _ (fill0_0 V c t d0 _ k _ (by show 408 * t.val + (g.val * 17 + d.val) = 17 * G.val + d.val; omega)) (blk0_3 V c t _)
  · exact Finset.sum_congr rfl fun k _ => congrArg₂ _ (fill0_1 V c t d1 _ k _ (by show 408 * t.val + (g.val * 17 + d.val) = 17 * G.val + d.val; omega)) (blk0_4 V c t _)
  · exact Finset.sum_congr rfl fun k _ => congrArg₂ _ (fill0_2 V c t d2 _ k _ he) (blk0_5 V c t _)
  · exact blk0_6 V c t _

theorem feat_at (t : Fin cfg0.N) (d0 d1 d2) (r : Fin 408) (k : Fin 256) (n : Fin 9996) (hn : 408 * t.val + r.val = n.val) :
    attnFeat ((cfg0.win 0).fill (cfg0.grid.coords t) d0 (blk0 V c 0 t)) ((cfg0.win 1).fill (cfg0.grid.coords t) d1 (blk0 V c 1 t))
        ((cfg0.win 2).fill (cfg0.grid.coords t) d2 (blk0 V c 2 t)) (blk0 V c 3 t) (blk0 V c 4 t) (blk0 V c 5 t) (blk0 V c 6 t) (ix2 r k)
      = featArr (V c main_arg0) (V c main_arg2) (V c main_arg1) (V c main_v7) (V c main_v15) (V c main_v18) (V c main_v19) n k := by
  obtain ⟨g, d, hr⟩ : ∃ (g : Fin 24) (d : Fin 17), r.val = g.val * 17 + d.val :=
    ⟨⟨r.val / 17, by omega⟩, ⟨r.val % 17, by omega⟩, by show r.val = r.val / 17 * 17 + r.val % 17; omega⟩
  have e : r = ⟨g.val * 17 + d.val, by omega⟩ := Fin.ext hr
  rw [e]
  have hp : placeOf n = d := Fin.ext (by show n.val % 17 = d.val; omega)
  have hG : 24 * t.val + g.val = (graphOf n).val := by show _ = n.val / 17; omega
  refine (attnFeat_apply _ _ _ _ _ _ _ g d k).trans ?_
  unfold featArr
  rw [hp]
  exact agg_congr (fun s d _ => blockScore_arr V c t d0 d1 d2 g _ hG s d)
    (fun s => fill0_0 V c t d0 _ k _ (by show 408 * t.val + (g.val * 17 + s.val) = 17 * (graphOf n).val + s.val; omega)) d

theorem word_at (t : Fin cfg0.N) (d0 d1 d2) (r : Fin 408) (k : Fin 300) (n : Fin 9996) (hn : 408 * t.val + r.val = n.val) :
    attnWord ((cfg0.win 0).fill (cfg0.grid.coords t) d0 (blk0 V c 0 t)) ((cfg0.win 1).fill (cfg0.grid.coords t) d1 (blk0 V c 1 t))
        ((cfg0.win 2).fill (cfg0.grid.coords t) d2 (blk0 V c 2 t)) (blk0 V c 3 t) (blk0 V c 4 t) (blk0 V c 5 t) (blk0 V c 6 t) (ix2 r k)
      = wordArr (V c main_arg0) (V c main_arg2) (V c main_arg1) (V c main_v7) (V c main_v15) (V c main_v18) (V c main_v19) n k := by
  obtain ⟨g, d, hr⟩ : ∃ (g : Fin 24) (d : Fin 17), r.val = g.val * 17 + d.val :=
    ⟨⟨r.val / 17, by omega⟩, ⟨r.val % 17, by omega⟩, by show r.val = r.val / 17 * 17 + r.val % 17; omega⟩
  have e : r = ⟨g.val * 17 + d.val, by omega⟩ := Fin.ext hr
  rw [e]
  have hp : placeOf n = d := Fin.ext (by show n.val % 17 = d.val; omega)
  have hG : 24 * t.val + g.val = (graphOf n).val := by show _ = n.val / 17; omega
  refine (attnWord_apply _ _ _ _ _ _ _ g d k).trans ?_
  unfold wordArr
  rw [hp]
  exact agg_congr (fun s d _ => blockScore_arr V c t d0 d1 d2 g _ hG s d)
    (fun s => fill0_1 V c t d1 _ k _ (by show 408 * t.val + (g.val * 17 + s.val) = 17 * (graphOf n).val + s.val; omega)) d

theorem pred_at (t : Fin cfg1.N) (d0 d1 d2 d3 d4) (r : Fin 512) (k : Fin 117) (n : Fin 9996) (hn : 512 * t.val + r.val = n.val) :
    denseOut ((cfg1.win 0).fill (cfg1.grid.coords t) d0 (blk1 V c 0 t)) ((cfg1.win 1).fill (cfg1.grid.coords t) d1 (blk1 V c 1 t))
        ((cfg1.win 2).fill (cfg1.grid.coords t) d2 (blk1 V c 2 t)) ((cfg1.win 3).fill (cfg1.grid.coords t) d3 (blk1 V c 3 t))
        ((cfg1.win 4).fill (cfg1.grid.coords t) d4 (blk1 V c 4 t)) (blk1 V c 5 t) (blk1 V c 6 t) (blk1 V c 7 t) (blk1 V c 8 t)
        (blk1 V c 9 t) (blk1 V c 10 t) (blk1 V c 11 t) (blk1 V c 12 t) (blk1 V c 13 t) (ix2 r k)
      = predArr (V c main_arg0) (V c main_arg2) (V c main_v20_0) (V c main_v20_1) (V c main_v21) (V c main_v23) (V c main_v24)
          (V c main_v25) (V c main_v26) (V c main_v27) (V c main_v30) (V c main_v28) (V c main_v31) (V c main_v29) n k := by
  refine (denseOut_apply _ _ _ _ _ _ _ _ _ _ _ _ _ _ r k).trans ?_
  unfold predArr
  have hh : ∀ x, hidden (fun j => ((cfg1.win 0).fill (cfg1.grid.coords t) d0 (blk1 V c 0 t) : FVec Ideal S512x256 .f32) (ix2 r j))
      (fun j => ((cfg1.win 1).fill (cfg1.grid.coords t) d1 (blk1 V c 1 t) : FVec Ideal S512x300 .f32) (ix2 r j))
      (fun j => ((cfg1.win 2).fill (cfg1.grid.coords t) d2 (blk1 V c 2 t) : FVec Ideal S512x256 .bf16) (ix2 r j))
      (fun j => ((cfg1.win 3).fill (cfg1.grid.coords t) d3 (blk1 V c 3 t) : FVec Ideal S512x300 .bf16) (ix2 r j))
      (blk1 V c 5 t) (blk1 V c 6 t) (blk1 V c 7 t) (blk1 V c 8 t) (blk1 V c 9 t) x
      = hidden (fun j => (V c main_arg0 : FVec Ideal S9996x256 .f32) (ix2 n j)) (fun j => (V c main_arg2 : FVec Ideal S9996x300 .f32) (ix2 n j))
        (fun j => (V c main_v20_0 : FVec Ideal S9996x256 .bf16) (ix2 n j)) (fun j => (V c main_v20_1 : FVec Ideal S9996x300 .bf16) (ix2 n j))
        (V c main_v23) (V c main_v24) (V c main_v25) (V c main_v26) (V c main_v27) x := by
    intro x
    unfold hidden
    refine congrArg₂ max (congrArg₂ _ (congrArg₂ _ (congrArg₂ _ (congrArg₂ _ ?_ ?_) ?_) ?_) (blk1_9 V c t _)) rfl
    · exact Finset.sum_congr rfl fun j _ => congrArg₂ _ (fill1_0 V c t d0 r j n hn) (blk1_5 V c t _)
    · exact Finset.sum_congr rfl fun j _ => congrArg₂ _ (fill1_1 V c t d1 r j n hn) (blk1_6 V c t _)
    · exact Finset.sum_congr rfl fun j _ => congrArg₂ _ (fill1_2 V c t d2 r j n hn) (blk1_7 V c t _)
    · exact Finset.sum_congr rfl fun j _ => congrArg₂ _ (fill1_3 V c t d3 r j n hn) (blk1_8 V c t _)
  refine congr (congrArg₂ _ (congrArg (fun w => IntOp.cmpi .eq w 1#32) (fill1_4 V c t d4 r 0 n hn)) ?_) ?_
  · exact congrArg₂ _ (Finset.sum_congr rfl fun x _ => congrArg₂ _ (hh x) (blk1_10 V c t _)) (blk1_11 V c t _)
  · exact congrArg₂ _ (Finset.sum_congr rfl fun x _ => congrArg₂ _ (hh x) (blk1_12 V c t _)) (blk1_13 V c t _)

end Attention

/-! ## The outputs' blocks -/

/-- What the first kernel's body leaves in its two output buffers, and the second's in its. -/
def out7 (V : Mem (F := Ideal)) (c : Dev nD) (t : Fin cfg0.N) : Vec Ideal S408x256 .bf16 :=
  attnFeat (full0 V c 0 t) (full0 V c 1 t) (full0 V c 2 t) (blk0 V c 3 t) (blk0 V c 4 t) (blk0 V c 5 t) (blk0 V c 6 t)
def out8 (V : Mem (F := Ideal)) (c : Dev nD) (t : Fin cfg0.N) : Vec Ideal S408x300 .bf16 :=
  attnWord (full0 V c 0 t) (full0 V c 1 t) (full0 V c 2 t) (blk0 V c 3 t) (blk0 V c 4 t) (blk0 V c 5 t) (blk0 V c 6 t)
def out14 (V : Mem (F := Ideal)) (c : Dev nD) (t : Fin cfg1.N) : Vec Ideal S512x117 .f32 :=
  denseOut (full1 V c 0 t) (full1 V c 1 t) (full1 V c 2 t) (full1 V c 3 t) (full1 V c 4 t) (blk1 V c 5 t) (blk1 V c 6 t)
    (blk1 V c 7 t) (blk1 V c 8 t) (blk1 V c 9 t) (blk1 V c 10 t) (blk1 V c 11 t) (blk1 V c 12 t) (blk1 V c 13 t)

/-- A row of the part of a block inside the array is a row of the array. -/
theorem row7 (t : Fin cfg0.N) (y : ((cfg0.win 7).xblock (cfg0.grid.coords t)).Idx) :
    408 * t.val + (y 0).val < 9996 ∧ (y 0).val < 408 := by
  have h : (y 0).val < win0_7.xsize (cfg0.grid.coords t) 0 := (y 0).isLt
  rw [(ext0 t).2.2.2.1] at h
  replace h : (y 0).val < min 408 (9996 - 408 * t.val) := h
  omega
theorem row8 (t : Fin cfg0.N) (y : ((cfg0.win 8).xblock (cfg0.grid.coords t)).Idx) :
    408 * t.val + (y 0).val < 9996 ∧ (y 0).val < 408 := by
  have h : (y 0).val < win0_8.xsize (cfg0.grid.coords t) 0 := (y 0).isLt
  rw [(ext0 t).2.2.2.2] at h
  replace h : (y 0).val < min 408 (9996 - 408 * t.val) := h
  omega
theorem row14 (t : Fin cfg1.N) (y : ((cfg1.win 14).xblock (cfg1.grid.coords t)).Idx) :
    512 * t.val + (y 0).val < 9996 ∧ (y 0).val < 512 := by
  have h : (y 0).val < win1_14.xsize (cfg1.grid.coords t) 0 := (y 0).isLt
  rw [(ext1 t).2.2.2.2.2] at h
  replace h : (y 0).val < min 512 (9996 - 512 * t.val) := h
  omega
theorem col7 (t : Fin cfg0.N) (y : ((cfg0.win 7).xblock (cfg0.grid.coords t)).Idx) : (y 1).val < 256 :=
  Nat.lt_of_lt_of_le (y 1).isLt ((cfg0.win 7).xsize_le (cfg0.grid.coords t) 1)
theorem col8 (t : Fin cfg0.N) (y : ((cfg0.win 8).xblock (cfg0.grid.coords t)).Idx) : (y 1).val < 300 :=
  Nat.lt_of_lt_of_le (y 1).isLt ((cfg0.win 8).xsize_le (cfg0.grid.coords t) 1)
theorem col14 (t : Fin cfg1.N) (y : ((cfg1.win 14).xblock (cfg1.grid.coords t)).Idx) : (y 1).val < 117 :=
  Nat.lt_of_lt_of_le (y 1).isLt ((cfg1.win 14).xsize_le (cfg1.grid.coords t) 1)

theorem inj7 (t : Fin cfg0.N) (y : ((cfg0.win 7).xblock (cfg0.grid.coords t)).Idx) :
    (cfg0.win 7).xinj (cfg0.grid.coords t) y = (ix2 ⟨(y 0).val, (row7 t y).2⟩ ⟨(y 1).val, col7 t y⟩ : S408x256.Idx) := by
  funext a; match a with | ⟨0, _⟩ => rfl | ⟨1, _⟩ => rfl
theorem inj8 (t : Fin cfg0.N) (y : ((cfg0.win 8).xblock (cfg0.grid.coords t)).Idx) :
    (cfg0.win 8).xinj (cfg0.grid.coords t) y = (ix2 ⟨(y 0).val, (row8 t y).2⟩ ⟨(y 1).val, col8 t y⟩ : S408x300.Idx) := by
  funext a; match a with | ⟨0, _⟩ => rfl | ⟨1, _⟩ => rfl
theorem inj14 (t : Fin cfg1.N) (y : ((cfg1.win 14).xblock (cfg1.grid.coords t)).Idx) :
    (cfg1.win 14).xinj (cfg1.grid.coords t) y = (ix2 ⟨(y 0).val, (row14 t y).2⟩ ⟨(y 1).val, col14 t y⟩ : S512x117.Idx) := by
  funext a; match a with | ⟨0, _⟩ => rfl | ⟨1, _⟩ => rfl

theorem fits0 : Fits0 out7 out8 where
  feat V c t d0 d1 d2 := by
    funext y
    show attnFeat _ _ _ _ _ _ _ ((cfg0.win 7).xinj _ y) = out7 V c t ((cfg0.win 7).xinj _ y)
    rw [inj7]
    exact (feat_at V c t d0 d1 d2 _ _ ⟨_, (row7 t y).1⟩ rfl).trans (feat_at V c t _ _ _ _ _ ⟨_, (row7 t y).1⟩ rfl).symm
  word V c t d0 d1 d2 := by
    funext y
    show attnWord _ _ _ _ _ _ _ ((cfg0.win 8).xinj _ y) = out8 V c t ((cfg0.win 8).xinj _ y)
    rw [inj8]
    exact (word_at V c t d0 d1 d2 _ _ ⟨_, (row8 t y).1⟩ rfl).trans (word_at V c t _ _ _ _ _ ⟨_, (row8 t y).1⟩ rfl).symm

theorem fits1 : Fits1 out14 where
  out V c t d0 d1 d2 d3 d4 := by
    funext y
    show denseOut _ _ _ _ _ _ _ _ _ _ _ _ _ _ ((cfg1.win 14).xinj _ y) = out14 V c t ((cfg1.win 14).xinj _ y)
    rw [inj14]
    exact (pred_at V c t d0 d1 d2 d3 d4 _ _ ⟨_, (row14 t y).1⟩ rfl).trans (pred_at V c t _ _ _ _ _ _ _ ⟨_, (row14 t y).1⟩ rfl).symm

/-! ## The outputs' arrays -/

variable (V : Mem (F := Ideal)) (c : Dev nD)

theorem feat_array : (dat0 (U := UR sig nD τ) V (out7 V) (out8 V) c).arrAt 7 cfg0.N
    = (fun i => featArr (V c main_arg0) (V c main_arg2) (V c main_arg1) (V c main_v7) (V c main_v15) (V c main_v18) (V c main_v19) (i 0) (i 1) : FVec Ideal S9996x256 .bf16) := by
  refine (dat0 (U := UR sig nD τ) V (out7 V) (out8 V) c).arrAt_eq_of_covers 7 _ (by decide +kernel) fun t _ y => ?_
  rw [after0_7, inj7]
  refine (feat_at V c t _ _ _ _ _ ⟨_, (row7 t y).1⟩ rfl).trans (congrArg₂ _ ?_ ?_)
  · apply Fin.ext; blk_simp [idx0 t]; simp; omega
  · apply Fin.ext; blk_simp [idx0 t]

theorem word_array : (dat0 (U := UR sig nD τ) V (out7 V) (out8 V) c).arrAt 8 cfg0.N
    = (fun i => wordArr (V c main_arg0) (V c main_arg2) (V c main_arg1) (V c main_v7) (V c main_v15) (V c main_v18) (V c main_v19) (i 0) (i 1) : FVec Ideal S9996x300 .bf16) := by
  refine (dat0 (U := UR sig nD τ) V (out7 V) (out8 V) c).arrAt_eq_of_covers 8 _ (by decide +kernel) fun t _ y => ?_
  rw [after0_8, inj8]
  refine (word_at V c t _ _ _ _ _ ⟨_, (row8 t y).1⟩ rfl).trans (congrArg₂ _ ?_ ?_)
  · apply Fin.ext; blk_simp [idx0 t]; simp; omega
  · apply Fin.ext; blk_simp [idx0 t]

theorem pred_array : (dat1 (U := UR sig nD τ) V (out14 V) c).arrAt 14 cfg1.N
    = (fun i => predArr (V c main_arg0) (V c main_arg2) (V c main_v20_0) (V c main_v20_1) (V c main_v21) (V c main_v23) (V c main_v24)
          (V c main_v25) (V c main_v26) (V c main_v27) (V c main_v30) (V c main_v28) (V c main_v31) (V c main_v29) (i 0) (i 1) : FVec Ideal S9996x117 .f32) := by
  refine (dat1 (U := UR sig nD τ) V (out14 V) c).arrAt_eq_of_covers 14 _ (by decide +kernel) fun t _ y => ?_
  rw [after1_14, inj14]
  refine (pred_at V c t _ _ _ _ _ _ _ ⟨_, (row14 t y).1⟩ rfl).trans (congrArg₂ _ ?_ ?_)
  · apply Fin.ext; blk_simp [idx1 t]; simp; omega
  · apply Fin.ext; blk_simp [idx1 t]

end Cert.KernelIdeal.Run

end
-- ==== Proof.HostRead.lean ====
module

public import proofs.«01_k».proof.Proof.IdealRun
public import Idealize.ShloMosaic.Lib.Pointwise
public import Idealize.ShloMosaic.Lib.Claim

@[expose] public section

set_option maxRecDepth 16384

noncomputable section

/-! What the operations around the two kernels put in the arrays the kernels read: slices, reshapes and
broadcasts of the arguments, read entry by entry. -/

namespace Cert.KernelIdeal.Run
open Cert.KernelIdeal Cert.KernelIdeal.Gen
open Idealize.ShloMosaic Idealize.ShloMosaic.TcCoe

variable (W : Valuation τ sig (Elt Ideal))

theorem v7_src (g : Fin 24) (k : Fin 256) : (StableHlo.after hostOps0 W (Proc.devRef .tc main_v7) : FVec Ideal S24x256x2 .f32) (ix3 g k 0)
    = (W (Proc.devRef .tc main_arg5) : FVec Ideal S1128x1 .f32) (ix2 ⟨k.val, by omega⟩ 0) := by
  entry_read
  pointwise!

theorem v7_dst (g : Fin 24) (k : Fin 256) : (StableHlo.after hostOps0 W (Proc.devRef .tc main_v7) : FVec Ideal S24x256x2 .f32) (ix3 g k 1)
    = (W (Proc.devRef .tc main_arg5) : FVec Ideal S1128x1 .f32) (ix2 ⟨556 + k.val, by omega⟩ 0) := by
  entry_read
  pointwise!

theorem v15_src (g : Fin 24) (k : Fin 300) : (StableHlo.after hostOps0 W (Proc.devRef .tc main_v15) : FVec Ideal S24x300x2 .f32) (ix3 g k 0)
    = (W (Proc.devRef .tc main_arg5) : FVec Ideal S1128x1 .f32) (ix2 ⟨256 + k.val, by omega⟩ 0) := by
  entry_read
  pointwise!

theorem v15_dst (g : Fin 24) (k : Fin 300) : (StableHlo.after hostOps0 W (Proc.devRef .tc main_v15) : FVec Ideal S24x300x2 .f32) (ix3 g k 1)
    = (W (Proc.devRef .tc main_arg5) : FVec Ideal S1128x1 .f32) (ix2 ⟨812 + k.val, by omega⟩ 0) := by
  entry_read
  pointwise!

theorem v18_at (k : Fin 16) : (StableHlo.after hostOps0 W (Proc.devRef .tc main_v18) : FVec Ideal S1x1x1x16 .f32) (ix4 0 0 0 k)
    = (W (Proc.devRef .tc main_arg5) : FVec Ideal S1128x1 .f32) (ix2 ⟨1112 + k.val, by omega⟩ 0) := by
  entry_read
  pointwise!

theorem v19_at  : (StableHlo.after hostOps0 W (Proc.devRef .tc main_v19) : FVec Ideal S1x1 .f32) (ix2 0 0)
    = (W (Proc.devRef .tc main_arg6) : FVec Ideal S1 .f32) (ix1 0) := by
  entry_read
  pointwise!

theorem v21_at (n : Fin 9996) : (StableHlo.after hostOps1 W (Proc.devRef .tc main_v21) : IVec S9996x1 32) (ix2 n 0)
    = (W (Proc.devRef .tc main_arg3) : IVec S9996 32) (ix1 n) := by
  entry_read
  pointwise!

theorem v23_at (k : Fin 256) (x : Fin 512) : (StableHlo.after hostOps1 W (Proc.devRef .tc main_v23) : FVec Ideal S256x512 .bf16) (ix2 k x)
    = (W (Proc.devRef .tc main_arg7) : FVec Ideal S1112x512 .f32) (ix2 ⟨0 + k.val, by omega⟩ x) := by
  entry_read
  pointwise!

theorem v24_at (k : Fin 300) (x : Fin 512) : (StableHlo.after hostOps1 W (Proc.devRef .tc main_v24) : FVec Ideal S300x512 .bf16) (ix2 k x)
    = (W (Proc.devRef .tc main_arg7) : FVec Ideal S1112x512 .f32) (ix2 ⟨256 + k.val, by omega⟩ x) := by
  entry_read
  pointwise!

theorem v25_at (k : Fin 256) (x : Fin 512) : (StableHlo.after hostOps1 W (Proc.devRef .tc main_v25) : FVec Ideal S256x512 .bf16) (ix2 k x)
    = (W (Proc.devRef .tc main_arg7) : FVec Ideal S1112x512 .f32) (ix2 ⟨556 + k.val, by omega⟩ x) := by
  entry_read
  pointwise!

theorem v26_at (k : Fin 300) (x : Fin 512) : (StableHlo.after hostOps1 W (Proc.devRef .tc main_v26) : FVec Ideal S300x512 .bf16) (ix2 k x)
    = (W (Proc.devRef .tc main_arg7) : FVec Ideal S1112x512 .f32) (ix2 ⟨812 + k.val, by omega⟩ x) := by
  entry_read
  pointwise!

theorem v27_at (x : Fin 512) : (StableHlo.after hostOps1 W (Proc.devRef .tc main_v27) : FVec Ideal S1x512 .f32) (ix2 0 x)
    = (W (Proc.devRef .tc main_arg8) : FVec Ideal S512 .f32) (ix1 x) := by
  entry_read
  pointwise!

theorem v28_at (x : Fin 117) : (StableHlo.after hostOps1 W (Proc.devRef .tc main_v28) : FVec Ideal S1x117 .f32) (ix2 0 x)
    = (W (Proc.devRef .tc main_arg10) : FVec Ideal S117 .f32) (ix1 x) := by
  entry_read
  pointwise!

theorem v29_at (x : Fin 117) : (StableHlo.after hostOps1 W (Proc.devRef .tc main_v29) : FVec Ideal S1x117 .f32) (ix2 0 x)
    = (W (Proc.devRef .tc main_arg12) : FVec Ideal S117 .f32) (ix1 x) := by
  entry_read
  pointwise!

theorem v30_at (k : Fin 512) (x : Fin 117) : (StableHlo.after hostOps1 W (Proc.devRef .tc main_v30) : FVec Ideal S512x117 .bf16) (ix2 k x)
    = (W (Proc.devRef .tc main_arg9) : FVec Ideal S512x117 .f32) (ix2 k x) := by
  entry_read
  pointwise!

theorem v31_at (k : Fin 512) (x : Fin 117) : (StableHlo.after hostOps1 W (Proc.devRef .tc main_v31) : FVec Ideal S512x117 .bf16) (ix2 k x)
    = (W (Proc.devRef .tc main_arg11) : FVec Ideal S512x117 .f32) (ix2 k x) := by
  entry_read
  pointwise!

end Cert.KernelIdeal.Run

end
-- ==== Proof.KernelValue.lean ====
module

public import proofs.«01_k».proof.Proof.Arrays
public import proofs.«01_k».proof.Proof.HostRead

@[expose] public section

set_option maxRecDepth 16384

noncomputable section

/-! The array the program with the two kernels returns. -/

namespace Cert.KernelIdeal.Run
open Cert.KernelIdeal Cert.KernelIdeal.Gen
open Idealize.ShloMosaic Idealize.ShloMosaic.TcCoe Idealize.SL Idealize.SL.RA Idealize.SL.Sem Cert.Attn

variable (m : (ℓ : Loc nD τ sig) → Buf (Elt Ideal) ℓ) (c : Dev nD)

/-- The arguments of core `c`. -/
def dataOf : Data where
  feat n k := (m ((c : Thread nD τ).loc main_arg0) : FVec Ideal S9996x256 .f32) (ix2 n k)
  spatial n k := (m ((c : Thread nD τ).loc main_arg1) : FVec Ideal S159936x16 .f32) (ix2 n k)
  word n k := (m ((c : Thread nD τ).loc main_arg2) : FVec Ideal S9996x300 .f32) (ix2 n k)
  roi n := (m ((c : Thread nD τ).loc main_arg3) : IVec S9996 32) (ix1 n)
  wAtt k := (m ((c : Thread nD τ).loc main_arg5) : FVec Ideal S1128x1 .f32) (ix2 k 0)
  bAtt := (m ((c : Thread nD τ).loc main_arg6) : FVec Ideal S1 .f32) (ix1 0)
  wNode k x := (m ((c : Thread nD τ).loc main_arg7) : FVec Ideal S1112x512 .f32) (ix2 k x)
  bNode x := (m ((c : Thread nD τ).loc main_arg8) : FVec Ideal S512 .f32) (ix1 x)
  wH k x := (m ((c : Thread nD τ).loc main_arg9) : FVec Ideal S512x117 .f32) (ix2 k x)
  bH x := (m ((c : Thread nD τ).loc main_arg10) : FVec Ideal S117 .f32) (ix1 x)
  wO k x := (m ((c : Thread nD τ).loc main_arg11) : FVec Ideal S512x117 .f32) (ix2 k x)
  bO x := (m ((c : Thread nD τ).loc main_arg12) : FVec Ideal S117 .f32) (ix1 x)

/-! ### As the first kernel is entered -/

theorem e1 (a : Ref sig .tc) (ha : a ∈ argRefs) : at_ (B1 m) c a = m ((c : Thread nD τ).loc a) := B1_args m c a ha

theorem score_eq (G : Fin 588) (s d : Fin 17) :
    arrScore (at_ (B1 m) c main_arg0) (at_ (B1 m) c main_arg2) (at_ (B1 m) c main_arg1) (at_ (B1 m) c main_v7) (at_ (B1 m) c main_v15)
      (at_ (B1 m) c main_v18) (at_ (B1 m) c main_v19) G s d = (dataOf m c).score G s d := by
  unfold arrScore Data.score
  rw [e1 m c main_arg0 (by decide), e1 m c main_arg1 (by decide), e1 m c main_arg2 (by decide)]
  refine congrArg₂ _ (congrArg₂ _ (congrArg₂ _ (congrArg₂ _ ?_ ?_) (congrArg₂ _ ?_ ?_)) ?_) ?_
  · exact Finset.sum_congr rfl fun k _ => congrArg₂ _ rfl (v7_src (B0 m c) _ k)
  · exact Finset.sum_congr rfl fun k _ => congrArg₂ _ rfl (v15_src (B0 m c) _ k)
  · exact Finset.sum_congr rfl fun k _ => congrArg₂ _ rfl (v7_dst (B0 m c) _ k)
  · exact Finset.sum_congr rfl fun k _ => congrArg₂ _ rfl (v15_dst (B0 m c) _ k)
  · exact Finset.sum_congr rfl fun k _ => congrArg₂ _ rfl (v18_at (B0 m c) k)
  · exact v19_at (B0 m c)

theorem featArr_eq (n : Fin 9996) (k : Fin 256) :
    featArr (at_ (B1 m) c main_arg0) (at_ (B1 m) c main_arg2) (at_ (B1 m) c main_arg1) (at_ (B1 m) c main_v7) (at_ (B1 m) c main_v15)
      (at_ (B1 m) c main_v18) (at_ (B1 m) c main_v19) n k = (dataOf m c).aggFeat n k := by
  unfold featArr Data.aggFeat
  exact agg_congr (fun s d _ => score_eq m c _ s d) (fun s => congrFun (e1 m c main_arg0 (by decide)) _) _

theorem wordArr_eq (n : Fin 9996) (k : Fin 300) :
    wordArr (at_ (B1 m) c main_arg0) (at_ (B1 m) c main_arg2) (at_ (B1 m) c main_arg1) (at_ (B1 m) c main_v7) (at_ (B1 m) c main_v15)
      (at_ (B1 m) c main_v18) (at_ (B1 m) c main_v19) n k = (dataOf m c).aggWord n k := by
  unfold wordArr Data.aggWord
  exact agg_congr (fun s d _ => score_eq m c _ s d) (fun s => congrFun (e1 m c main_arg2 (by decide)) _) _

/-! ### As the second kernel is entered -/

theorem e3 (a : Ref sig .tc) (ha : a ∈ argRefs) : at_ (B3 out7 out8 m) c a = m ((c : Thread nD τ).loc a) := B3_args out7 out8 m c a ha
theorem e2 (a : Ref sig .tc) (ha : a ∈ argRefs) : B2 out7 out8 m c (Proc.devRef .tc a) = m ((c : Thread nD τ).loc a) := B2_args out7 out8 m c a ha

theorem in2 (n : Fin 9996) (k : Fin 256) : (at_ (B3 out7 out8 m) c main_v20_0 : FVec Ideal S9996x256 .bf16) (ix2 n k) = (dataOf m c).aggFeat n k := by
  have h : at_ (B3 out7 out8 m) c main_v20_0 = (D0 out7 out8 m c).arrAt 7 cfg0.N :=
    (StableHlo.after_of_writes_sub hostOps1 _ host1_writes (by decide)).trans (B2_arr out7 out8 m c 7)
  rw [h]
  exact (congrFun (feat_array (at_ (B1 m)) c) _).trans (featArr_eq m c n k)

theorem in3 (n : Fin 9996) (k : Fin 300) : (at_ (B3 out7 out8 m) c main_v20_1 : FVec Ideal S9996x300 .bf16) (ix2 n k) = (dataOf m c).aggWord n k := by
  have h : at_ (B3 out7 out8 m) c main_v20_1 = (D0 out7 out8 m c).arrAt 8 cfg0.N :=
    (StableHlo.after_of_writes_sub hostOps1 _ host1_writes (by decide)).trans (B2_arr out7 out8 m c 8)
  rw [h]
  exact (congrFun (word_array (at_ (B1 m)) c) _).trans (wordArr_eq m c n k)

theorem hidden_eq (n : Fin 9996) (x : Fin 512) :
    hidden (fun j => (at_ (B3 out7 out8 m) c main_arg0 : FVec Ideal S9996x256 .f32) (ix2 n j))
      (fun j => (at_ (B3 out7 out8 m) c main_arg2 : FVec Ideal S9996x300 .f32) (ix2 n j))
      (fun j => (at_ (B3 out7 out8 m) c main_v20_0 : FVec Ideal S9996x256 .bf16) (ix2 n j))
      (fun j => (at_ (B3 out7 out8 m) c main_v20_1 : FVec Ideal S9996x300 .bf16) (ix2 n j))
      (at_ (B3 out7 out8 m) c main_v23) (at_ (B3 out7 out8 m) c main_v24) (at_ (B3 out7 out8 m) c main_v25) (at_ (B3 out7 out8 m) c main_v26)
      (at_ (B3 out7 out8 m) c main_v27) x = (dataOf m c).hidden n x := by
  have w7 := e2 m c main_arg7 (by decide)
  unfold hidden Data.hidden
  refine congrArg₂ max (congrArg₂ _ (congrArg₂ _ (congrArg₂ _ (congrArg₂ _ ?_ ?_) ?_) ?_) ?_) rfl
  · exact Finset.sum_congr rfl fun k _ => congrArg₂ _ (congrFun (e3 m c main_arg0 (by decide)) _)
      (((v23_at (B2 out7 out8 m c) k x).trans (congrFun w7 _)).trans (congrArg (fun i => (dataOf m c).wNode i x) (Fin.ext (Nat.zero_add k.val))))
  · exact Finset.sum_congr rfl fun k _ => congrArg₂ _ (congrFun (e3 m c main_arg2 (by decide)) _) ((v24_at (B2 out7 out8 m c) k x).trans (congrFun w7 _))
  · exact Finset.sum_congr rfl fun k _ => congrArg₂ _ (in2 m c n k) ((v25_at (B2 out7 out8 m c) k x).trans (congrFun w7 _))
  · exact Finset.sum_congr rfl fun k _ => congrArg₂ _ (in3 m c n k) ((v26_at (B2 out7 out8 m c) k x).trans (congrFun w7 _))
  · exact (v27_at (B2 out7 out8 m c) x).trans (congrFun (e2 m c main_arg8 (by decide)) _)

theorem predArr_eq (n : Fin 9996) (k : Fin 117) :
    predArr (at_ (B3 out7 out8 m) c main_arg0) (at_ (B3 out7 out8 m) c main_arg2) (at_ (B3 out7 out8 m) c main_v20_0) (at_ (B3 out7 out8 m) c main_v20_1)
      (at_ (B3 out7 out8 m) c main_v21) (at_ (B3 out7 out8 m) c main_v23) (at_ (B3 out7 out8 m) c main_v24) (at_ (B3 out7 out8 m) c main_v25)
      (at_ (B3 out7 out8 m) c main_v26) (at_ (B3 out7 out8 m) c main_v27) (at_ (B3 out7 out8 m) c main_v30) (at_ (B3 out7 out8 m) c main_v28)
      (at_ (B3 out7 out8 m) c main_v31) (at_ (B3 out7 out8 m) c main_v29) n k = (dataOf m c).pred n k := by
  unfold predArr Data.pred
  refine congr (congrArg₂ _ (congrArg (fun w => IntOp.cmpi .eq w 1#32)
    ((v21_at (B2 out7 out8 m c) n).trans (congrFun (e2 m c main_arg3 (by decide)) _))) ?_) ?_
  · exact congrArg₂ _ (Finset.sum_congr rfl fun x _ => congrArg₂ _ (hidden_eq m c n x)
      ((v30_at (B2 out7 out8 m c) x k).trans (congrFun (e2 m c main_arg9 (by decide)) _)))
      ((v28_at (B2 out7 out8 m c) k).trans (congrFun (e2 m c main_arg10 (by decide)) _))
  · exact congrArg₂ _ (Finset.sum_congr rfl fun x _ => congrArg₂ _ (hidden_eq m c n x)
      ((v31_at (B2 out7 out8 m c) x k).trans (congrFun (e2 m c main_arg11 (by decide)) _)))
      ((v29_at (B2 out7 out8 m c) k).trans (congrFun (e2 m c main_arg12 (by decide)) _))

/-- The result at the end of the program. -/
theorem result_eq : B4 out7 out8 out14 m c (Proc.devRef .tc main_v32)
    = (fun i => (dataOf m c).pred (i 0) (i 1) : FVec Ideal S9996x117 .f32) := by
  refine (B4_arr out7 out8 out14 m c 14).trans ((pred_array (at_ (B3 out7 out8 m)) c).trans ?_)
  funext i
  exact predArr_eq m c (i 0) (i 1)

end Cert.KernelIdeal.Run

end
-- ==== Proof.Pre.lean ====
module

public import proofs.«01_k».proof.Proof.Spec
public import proofs.«01_k».proof.Pre_fully_connected
public import Idealize.ShloMosaic.Lib.Pointwise
public import Idealize.ShloMosaic.Lib.ReduceAll
public import Idealize.ShloMosaic.Lib.Affine
public import Idealize.ShloMosaic.Lib.PlanTiles.Words

@[expose] public section

set_option maxRecDepth 16384

noncomputable section

/-!
# What the precondition says of the edge list

The precondition computes, from the number of an edge, the node it leaves and the node it enters, and asks that the edge
list holds these two numbers.  Here its integer arithmetic — rounded division and remainder of small nonnegative words — is
read as division and remainder of natural numbers.
-/

namespace Cert.Attn

open Idealize.ShloMosaic

/-- The signed quotient of two small words is the word of the quotient. -/
theorem quot_word (a k : ℕ) (ha : a < 2 ^ 31) (hk : 0 < k) (hk' : k < 2 ^ 31) :
    IntOp.divsi .host (BitVec.ofNat 32 a) (BitVec.ofNat 32 k) = BitVec.ofNat 32 (a / k) := by
  have h : 0 < (BitVec.ofNat 32 k).toInt := by
    rw [StableHlo.Predicate.toInt_ofNat_small k hk']; omega
  have hm : (BitVec.ofNat 32 a).msb = false := by
    rw [BitVec.msb_eq_false_iff_two_mul_lt, BitVec.toNat_ofNat]; omega
  have hmk : (BitVec.ofNat 32 k).msb = false := by
    rw [BitVec.msb_eq_false_iff_two_mul_lt, BitVec.toNat_ofNat]; omega
  rw [IntOp.divsi, if_neg (IntOp.not_corner_of_pos h), BitVec.sdiv_eq, hm, hmk]
  apply BitVec.eq_of_toNat_eq
  have : a / k ≤ a := Nat.div_le_self a k
  show (BitVec.ofNat 32 a / BitVec.ofNat 32 k).toNat = _
  rw [BitVec.toNat_udiv, BitVec.toNat_ofNat, BitVec.toNat_ofNat, BitVec.toNat_ofNat, Nat.mod_eq_of_lt (by omega),
    Nat.mod_eq_of_lt (by omega), Nat.mod_eq_of_lt (by omega)]

/-- The signed remainder of two small words is the word of the remainder. -/
theorem rem_word (a k : ℕ) (ha : a < 2 ^ 31) (hk : 0 < k) (hk' : k < 2 ^ 31) :
    IntOp.remsi .host (BitVec.ofNat 32 a) (BitVec.ofNat 32 k) = BitVec.ofNat 32 (a % k) := by
  apply BitVec.eq_of_toNat_eq
  have : a % k ≤ a := Nat.mod_le a k
  have h1 : a % 2 ^ 32 = a := Nat.mod_eq_of_lt (by omega)
  have h2 : a % k % 2 ^ 32 = a % k := Nat.mod_eq_of_lt (by omega)
  rw [IntOp.toNat_remsi .host (by rw [BitVec.toNat_ofNat]; omega) k hk (by omega), BitVec.toNat_ofNat, BitVec.toNat_ofNat,
    h1, h2]

/-- The sign of a small positive word is one. -/
theorem sign_word (a : ℕ) (ha : a < 2 ^ 31) (h0 : 0 < a) :
    (if BitVec.ofNat 32 a = 0 then (0 : BitVec 32) else if (BitVec.ofNat 32 a).msb then -1 else 1) = 1 := by
  have hm : (BitVec.ofNat 32 a).msb = false := by
    rw [BitVec.msb_eq_false_iff_two_mul_lt, BitVec.toNat_ofNat]; omega
  have h : BitVec.ofNat 32 a ≠ 0 := fun h => by
    have := congrArg BitVec.toNat h
    rw [BitVec.toNat_ofNat, Nat.mod_eq_of_lt (by omega)] at this
    exact absurd this (by simpa using h0.ne')
  rw [if_neg h, hm]; rfl

end Cert.Attn

namespace Cert.Pre_fully_connected

open Idealize.ShloMosaic Cert.Attn

variable [Facts]

/-- Rounded-down division by a positive number, at an index where the dividend is a small nonnegative word. -/
theorem floor_divide_at (x : IVec S159936 32) (i : S159936.Idx) (a k : ℕ) (hx : x i = BitVec.ofNat 32 a) (ha : a < 2 ^ 31)
    (hk : 0 < k) (hk' : k < 2 ^ 31) :
    fn_floor_divide (F := Ideal) x (constantI S_ 32 (BitVec.ofNat 32 k)) i = BitVec.ofNat 32 (a / k) := by
  show Scalar.select
      (IntOp.andi
        (IntOp.cmpi .ne (if x i = 0 then (0 : BitVec 32) else if (x i).msb then -1 else 1)
          (if BitVec.ofNat 32 k = 0 then (0 : BitVec 32) else if (BitVec.ofNat 32 k).msb then -1 else 1))
        (IntOp.cmpi .ne (IntOp.remsi .host (x i) (BitVec.ofNat 32 k)) 0#32))
      (IntOp.subi (IntOp.divsi .host (x i) (BitVec.ofNat 32 k)) 1#32) (IntOp.divsi .host (x i) (BitVec.ofNat 32 k)) = _
  rw [hx, quot_word a k ha hk hk', rem_word a k ha hk hk', sign_word k hk' hk]
  rcases Nat.eq_zero_or_pos a with rfl | h0
  · simp [IntOp.cmpi, IntOp.andi, Scalar.select]
  · rw [sign_word a ha h0]
    simp [IntOp.cmpi, IntOp.andi, Scalar.select]

/-- The remainder with the divisor's sign, at an index where the dividend is a small nonnegative word. -/
theorem remainder_at (x : IVec S159936 32) (i : S159936.Idx) (a k : ℕ) (hx : x i = BitVec.ofNat 32 a) (ha : a < 2 ^ 31)
    (hk : 0 < k) (hk' : k < 2 ^ 31) :
    fn_remainder (F := Ideal) x (constantI S_ 32 (BitVec.ofNat 32 k)) i = BitVec.ofNat 32 (a % k) := by
  have hsel : Scalar.select (IntOp.cmpi .eq (BitVec.ofNat 32 k) 0#32) 1#32 (BitVec.ofNat 32 k) = BitVec.ofNat 32 k := by
    have h : ¬ BitVec.ofNat 32 k = 0#32 := fun h => by
      have := congrArg BitVec.toNat h
      rw [BitVec.toNat_ofNat, Nat.mod_eq_of_lt (by omega)] at this
      exact absurd this (by simpa using hk.ne')
    exact if_neg fun hc => h (StableHlo.Predicate.cmpi_eq_iff.1 hc)
  have hle : a % k ≤ a := Nat.mod_le a k
  have h1 : (BitVec.ofNat 32 (a % k)).slt 0#32 = false := by
    have := StableHlo.Predicate.slt_ofNat_iff (a % k) 0 (by omega) (by norm_num)
    rw [StableHlo.Predicate.ofBool_eq_one_iff] at this
    exact Bool.eq_false_iff.2 fun h => Nat.not_lt_zero _ (this.1 h)
  have h2 : (BitVec.ofNat 32 k).slt 0#32 = false := by
    have := StableHlo.Predicate.slt_ofNat_iff k 0 (by omega) (by norm_num)
    rw [StableHlo.Predicate.ofBool_eq_one_iff] at this
    exact Bool.eq_false_iff.2 fun h => Nat.not_lt_zero _ (this.1 h)
  show Scalar.select
      (IntOp.andi
        (IntOp.cmpi .ne
          (IntOp.cmpi .slt (IntOp.remsi .host (x i) (Scalar.select (IntOp.cmpi .eq (BitVec.ofNat 32 k) 0#32) 1#32 (BitVec.ofNat 32 k))) 0#32)
          (IntOp.cmpi .slt (Scalar.select (IntOp.cmpi .eq (BitVec.ofNat 32 k) 0#32) 1#32 (BitVec.ofNat 32 k)) 0#32))
        (IntOp.cmpi .ne (IntOp.remsi .host (x i) (Scalar.select (IntOp.cmpi .eq (BitVec.ofNat 32 k) 0#32) 1#32 (BitVec.ofNat 32 k))) 0#32))
      (IntOp.addi (IntOp.remsi .host (x i) (Scalar.select (IntOp.cmpi .eq (BitVec.ofNat 32 k) 0#32) 1#32 (BitVec.ofNat 32 k)))
        (Scalar.select (IntOp.cmpi .eq (BitVec.ofNat 32 k) 0#32) 1#32 (BitVec.ofNat 32 k)))
      (IntOp.remsi .host (x i) (Scalar.select (IntOp.cmpi .eq (BitVec.ofNat 32 k) 0#32) 1#32 (BitVec.ofNat 32 k))) = _
  rw [hsel, hx, rem_word a k ha hk hk']
  simp only [IntOp.cmpi, h1, h2]
  simp [IntOp.andi, Scalar.select]

/-- The two rows of the array the edge list is compared with. -/
theorem rows_at (a b : IVec S159936 32) (e : Fin 159936) :
    concatenate S2x159936 0
        [⟨S1x159936, broadcastInDim S1x159936 ![1] Facts.bcast_S159936_S1x159936_1 a⟩,
         ⟨S1x159936, broadcastInDim S1x159936 ![1] Facts.bcast_S159936_S1x159936_1 b⟩]
        Facts.concatenates_S1x159936_S1x159936_S2x159936_d0 (ix2 0 e) = a (ix1 e) ∧
    concatenate S2x159936 0
        [⟨S1x159936, broadcastInDim S1x159936 ![1] Facts.bcast_S159936_S1x159936_1 a⟩,
         ⟨S1x159936, broadcastInDim S1x159936 ![1] Facts.bcast_S159936_S1x159936_1 b⟩]
        Facts.concatenates_S1x159936_S1x159936_S2x159936_d0 (ix2 1 e) = b (ix1 e) := by
  constructor
  · pointwise
  · pointwise

variable (x0 : FVec Ideal S9996x256 .f32) (x1 : FVec Ideal S159936x16 .f32) (x2 : FVec Ideal S9996x300 .f32)
  (x3 : IVec S9996 32) (x4 : IVec S2x159936 32) (x5 : FVec Ideal S1128x1 .f32) (x6 : FVec Ideal S1 .f32)
  (x7 : FVec Ideal S1112x512 .f32) (x8 : FVec Ideal S512 .f32) (x9 : FVec Ideal S512x117 .f32) (x10 : FVec Ideal S117 .f32)
  (x11 : FVec Ideal S512x117 .f32) (x12 : FVec Ideal S117 .f32)

/-- Where the precondition holds, the edge list holds the source of every edge in its first row and the destination in its
    second. -/
theorem edges_of_pre
    (h : fn (F := Ideal) x0 x1 x2 x3 x4 x5 x6 x7 x8 x9 x10 x11 x12 = fun _ => 1#1) (e : Fin 159936) :
    x4 (ix2 0 e) = BitVec.ofNat 32 (srcOf e) ∧ x4 (ix2 1 e) = BitVec.ofNat 32 (dstOf e) := by
  have he := e.isLt
  unfold fn fn_part1 at h
  dsimp only [fn_where] at h
  generalize hn : iotaInDim S159936 32 0 = n at h
  have n_at : n (ix1 e) = BitVec.ofNat 32 e.val := by rw [← hn]; rfl
  generalize hg : fn_floor_divide (F := Ideal) n (constantI S_ 32 272#32) = g at h
  generalize hr : fn_remainder (F := Ideal) n (constantI S_ 32 272#32) = r at h
  generalize hs : fn_floor_divide (F := Ideal) r (constantI S_ 32 16#32) = s at h
  generalize ht : fn_remainder (F := Ideal) n (constantI S_ 32 16#32) = t at h
  have g_at : g (ix1 e) = BitVec.ofNat 32 (e.val / 272) := by
    rw [← hg]; exact floor_divide_at n _ e.val 272 n_at (by omega) (by norm_num) (by norm_num)
  have r_at : r (ix1 e) = BitVec.ofNat 32 (e.val % 272) := by
    rw [← hr]; exact remainder_at n _ e.val 272 n_at (by omega) (by norm_num) (by norm_num)
  have s_at : s (ix1 e) = BitVec.ofNat 32 (e.val % 272 / 16) := by
    rw [← hs]; exact floor_divide_at r _ (e.val % 272) 16 r_at (by omega) (by norm_num) (by norm_num)
  have t_at : t (ix1 e) = BitVec.ofNat 32 (e.val % 16) := by
    rw [← ht]; exact remainder_at n _ e.val 16 n_at (by omega) (by norm_num) (by norm_num)
  have hall : ∀ i : S2x159936.Idx,
      cmpi .eq x4 (concatenate S2x159936 0
        [⟨S1x159936, broadcastInDim S1x159936 ![1] Facts.bcast_S159936_S1x159936_1
            (addi (muli (broadcastInDim S159936 ![] Facts.bcast_S_S159936 (constantI S_ 32 17#32)) g) s)⟩,
         ⟨S1x159936, broadcastInDim S1x159936 ![1] Facts.bcast_S159936_S1x159936_1
            (addi (muli (broadcastInDim S159936 ![] Facts.bcast_S_S159936 (constantI S_ 32 17#32)) g)
              (select (cmpi .slt t s) t (addi t (broadcastInDim S159936 ![] Facts.bcast_S_S159936 (constantI S_ 32 1#32)))))⟩]
        Facts.concatenates_S1x159936_S1x159936_S2x159936_d0) i = 1#1 :=
    Host.reduce_andi_all _ _ _ _ (Shape.Idx.first Facts.h_S_) (congrFun h _)
  have h0 := StableHlo.Predicate.cmpi_eq_iff.1 (hall (ix2 0 e))
  have h1 := StableHlo.Predicate.cmpi_eq_iff.1 (hall (ix2 1 e))
  rw [(rows_at _ _ e).1] at h0
  rw [(rows_at _ _ e).2] at h1
  constructor
  · rw [h0]
    show IntOp.addi (IntOp.muli 17#32 (g (ix1 e))) (s (ix1 e)) = _
    rw [g_at, s_at]
    show 17#32 * BitVec.ofNat 32 (e.val / 272) + BitVec.ofNat 32 (e.val % 272 / 16) = _
    rw [← BitVec.ofNat_mul, ← BitVec.ofNat_add, srcOf]
  · rw [h1]
    show IntOp.addi (IntOp.muli 17#32 (g (ix1 e)))
      (Scalar.select (IntOp.cmpi .slt (t (ix1 e)) (s (ix1 e))) (t (ix1 e)) (IntOp.addi (t (ix1 e)) 1#32)) = _
    rw [g_at, s_at, t_at, dstOf]
    have hlt := StableHlo.Predicate.slt_ofNat_iff (e.val % 16) (e.val % 272 / 16) (by omega) (by omega)
    by_cases hc : e.val % 16 < e.val % 272 / 16
    · have hw : IntOp.cmpi .slt (BitVec.ofNat 32 (e.val % 16)) (BitVec.ofNat 32 (e.val % 272 / 16)) = 1#1 := by
        simp only [IntOp.cmpi]; exact hlt.2 hc
      rw [hw, if_pos hc]
      show 17#32 * BitVec.ofNat 32 (e.val / 272) + BitVec.ofNat 32 (e.val % 16) = _
      rw [← BitVec.ofNat_mul, ← BitVec.ofNat_add]
    · have hw : IntOp.cmpi .slt (BitVec.ofNat 32 (e.val % 16)) (BitVec.ofNat 32 (e.val % 272 / 16)) = 0#1 := by
        rw [StableHlo.Predicate.ofBool_eq_one_iff] at hlt
        simp only [IntOp.cmpi]; rw [Bool.eq_false_iff.2 fun h => hc (hlt.1 h)]; rfl
      rw [hw, if_neg hc]
      show 17#32 * BitVec.ofNat 32 (e.val / 272) + (BitVec.ofNat 32 (e.val % 16) + 1#32) = _
      rw [← BitVec.ofNat_mul, ← BitVec.ofNat_add, ← BitVec.ofNat_add]

end Cert.Pre_fully_connected

end
-- ==== Proof.RefOps.lean ====
module

public import proofs.«01_k».proof.Proof.Spec
public import Idealize.ShloMosaic.Lib.Pointwise
public import Idealize.ShloMosaic.Lib.ReduceAll
public import Idealize.ShloMosaic.Lib.Routing.Ops
public import Idealize.ShloMosaic.Lib.Routing.OpsPair
public import Idealize.ShloMosaic.Lib.Routing.OpsSearch
public import Idealize.ShloMosaic.PureOps.Ideal

@[expose] public section

set_option maxRecDepth 16384

noncomputable section

/-!
# Sums scattered by an index column

Two of the reference's operations add, into an array of zeros, the entries of another array at places an index column
names.  Over the extended reals the result at a place is the sum of the entries whose index is that place.
-/

namespace Cert.Attn

open Idealize.ShloMosaic Idealize.ShloMosaic.Routing

/-- The numbers of a scatter of `n` scalars into a vector of `N`. -/
abbrev vecDims (N n : ℕ) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- The numbers of a scatter of `n` rows of `C` into a table of `N` rows. -/
abbrev rowDims (N n C : ℕ) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- Entry `e` is added at place `r` exactly when its index is `r`. -/
theorem vec_lands {N n : ℕ} (wf : ScatterDims.WF ⟨1, ![N]⟩ ⟨2, ![n, 1]⟩ ⟨1, ![n]⟩ [] [0] [0] 1)
    (idx : IVec ⟨2, ![n, 1]⟩ 32) (dest : Fin n → ℕ) (hd : ∀ e, idx (ix2 e 0) = BitVec.ofNat 32 (dest e))
    (hlt : ∀ e, dest e < 2 ^ 31) (e : Fin n) (r : Fin N) :
    (vecDims N n wf).resultIdx? (ix1 e) idx = some (ix1 r) ↔ dest e = r.val := by
  have hm : (0 : Fin 1) ∈ (vecDims N n wf).scatterDimsToOperandDims := List.mem_singleton.2 rfl
  have hwin : (vecDims N n wf).window (ix1 e) 0 = 0 := by
    unfold ScatterDims.window
    rw [dif_neg fun h => (of_decide_eq_true (List.mem_filter.1 h).2) (List.mem_singleton.2 rfl)]
  have hstart : (vecDims N n wf).start (ix1 e) idx 0 = dest e := by
    unfold ScatterDims.start
    rw [dif_pos hm]
    have hsi : (vecDims N n wf).siIdx (ix1 e) ⟨(vecDims N n wf).scatterDimsToOperandDims.idxOf 0,
        List.idxOf_lt_length_iff.2 hm⟩ = ix2 e 0 := by
      funext b
      refine Fin.ext ?_
      match b with
      | ⟨0, _⟩ => rfl
      | ⟨1, _⟩ => rfl
    rw [hsi, hd, StableHlo.Predicate.toInt_ofNat_small _ (hlt e)]
  refine (resultIdx?_ix1 (vecDims N n wf) (ix1 e) idx r).trans ?_
  rw [hstart, hwin]
  omega

/-- Entry `(e, k)` is added at `(r, c)` exactly when row `e`'s index is `r` and `k` is `c`. -/
theorem row_lands {N n C : ℕ} (wf : ScatterDims.WF ⟨2, ![N, C]⟩ ⟨2, ![n, 1]⟩ ⟨2, ![n, C]⟩ [1] [0] [0] 1)
    (idx : IVec ⟨2, ![n, 1]⟩ 32) (dest : Fin n → ℕ) (hd : ∀ e, idx (ix2 e 0) = BitVec.ofNat 32 (dest e))
    (hlt : ∀ e, dest e < 2 ^ 31) (e : Fin n) (k : Fin C) (r : Fin N) (c : Fin C) :
    (rowDims N n C wf).resultIdx? (ix2 e k) idx = some (ix2 r c) ↔ dest e = r.val ∧ k = c := by
  have hm : (0 : Fin 2) ∈ (rowDims N n C wf).scatterDimsToOperandDims := List.mem_singleton.2 rfl
  have hkept : (rowDims N n C wf).sKept = [1] := rfl
  have hwin0 : (rowDims N n C wf).window (ix2 e k) 0 = 0 := by
    unfold ScatterDims.window
    rw [dif_neg fun h => (of_decide_eq_true (List.mem_filter.1 h).2) (List.mem_singleton.2 rfl)]
  have hwin1 : (rowDims N n C wf).window (ix2 e k) 1 = k.val := by
    unfold ScatterDims.window
    rw [dif_pos (by rw [hkept]; exact List.mem_singleton.2 rfl)]
    rfl
  have hstart0 : (rowDims N n C wf).start (ix2 e k) idx 0 = dest e := by
    unfold ScatterDims.start
    rw [dif_pos hm]
    have hsi : (rowDims N n C wf).siIdx (ix2 e k) ⟨(rowDims N n C wf).scatterDimsToOperandDims.idxOf 0,
        List.idxOf_lt_length_iff.2 hm⟩ = ix2 e 0 := by
      funext b
      refine Fin.ext ?_
      match b with
      | ⟨0, _⟩ => rfl
      | ⟨1, _⟩ => rfl
    rw [hsi, hd, StableHlo.Predicate.toInt_ofNat_small _ (hlt e)]
  have hstart1 : (rowDims N n C wf).start (ix2 e k) idx 1 = 0 := by
    unfold ScatterDims.start
    rw [dif_neg fun h => absurd (List.mem_singleton.1 h) (by decide : (1 : Fin 2) ≠ 0)]
  refine (resultIdx?_ix2 (rowDims N n C wf) (ix2 e k) idx r c).trans ?_
  rw [hstart0, hwin0, hstart1, hwin1, Fin.ext_iff]
  omega

/-- Scalars added into a vector: each place gets the sum of the entries whose index it is. -/
theorem add_at {N n : ℕ} (wf : ScatterDims.WF ⟨1, ![N]⟩ ⟨2, ![n, 1]⟩ ⟨1, ![n]⟩ [] [0] [0] 1)
    (x : FVec Ideal ⟨1, ![N]⟩ .f32) (idx : IVec ⟨2, ![n, 1]⟩ 32) (upd : FVec Ideal ⟨1, ![n]⟩ .f32) (dest : Fin n → ℕ)
    (hd : ∀ e, idx (ix2 e 0) = BitVec.ofNat 32 (dest e)) (hlt : ∀ e, dest e < 2 ^ 31) (r : Fin N) :
    Host.scatterAdd (vecDims N n wf) x idx upd (ix1 r)
      = x (ix1 r) + ∑ e ∈ Finset.univ.filter (fun e => dest e = r.val), upd (ix1 e) := by
  show x (ix1 r) + ∑ j ∈ Finset.univ.filter (fun j => (vecDims N n wf).resultIdx? j idx = some (ix1 r)), upd j = _
  congr 1
  refine Finset.sum_bij' (fun j _ => j 0) (fun e _ => ix1 e) (fun j hj => ?_) (fun e he => ?_) (fun j _ => ?_)
    (fun e _ => rfl) (fun j _ => ?_)
  · have h := (Finset.mem_filter.1 hj).2
    rw [ValueIdx.eq_ix1 j] at h
    exact Finset.mem_filter.2 ⟨Finset.mem_univ _, (vec_lands wf idx dest hd hlt (j 0) r).1 h⟩
  · exact Finset.mem_filter.2 ⟨Finset.mem_univ _, (vec_lands wf idx dest hd hlt e r).2 (Finset.mem_filter.1 he).2⟩
  · exact (ValueIdx.eq_ix1 j).symm
  · exact congrArg upd (ValueIdx.eq_ix1 j)

/-- Rows added into a table: each row gets the sum of the rows whose index it is. -/
theorem add_rows {N n C : ℕ} (wf : ScatterDims.WF ⟨2, ![N, C]⟩ ⟨2, ![n, 1]⟩ ⟨2, ![n, C]⟩ [1] [0] [0] 1)
    (x : FVec Ideal ⟨2, ![N, C]⟩ .f32) (idx : IVec ⟨2, ![n, 1]⟩ 32) (upd : FVec Ideal ⟨2, ![n, C]⟩ .f32)
    (dest : Fin n → ℕ) (hd : ∀ e, idx (ix2 e 0) = BitVec.ofNat 32 (dest e)) (hlt : ∀ e, dest e < 2 ^ 31)
    (r : Fin N) (c : Fin C) :
    Host.scatterAdd (rowDims N n C wf) x idx upd (ix2 r c)
      = x (ix2 r c) + ∑ e ∈ Finset.univ.filter (fun e => dest e = r.val), upd (ix2 e c) := by
  show x (ix2 r c) + ∑ j ∈ Finset.univ.filter (fun j => (rowDims N n C wf).resultIdx? j idx = some (ix2 r c)), upd j = _
  have key : ∀ j, (rowDims N n C wf).resultIdx? j idx = some (ix2 r c) → dest (j 0) = r.val ∧ j 1 = c := fun j h => by
    rw [ValueIdx.eq_ix2 j] at h
    exact (row_lands wf idx dest hd hlt (j 0) (j 1) r c).1 h
  congr 1
  refine Finset.sum_bij' (fun j _ => j 0) (fun e _ => ix2 e c) (fun j hj => ?_) (fun e he => ?_) (fun j hj => ?_)
    (fun e _ => rfl) (fun j hj => ?_)
  · exact Finset.mem_filter.2 ⟨Finset.mem_univ _, (key j (Finset.mem_filter.1 hj).2).1⟩
  · exact Finset.mem_filter.2
      ⟨Finset.mem_univ _, (row_lands wf idx dest hd hlt e c r c).2 ⟨(Finset.mem_filter.1 he).2, rfl⟩⟩
  · have h := (key j (Finset.mem_filter.1 hj).2).2
    rw [← h]; exact (ValueIdx.eq_ix2 j).symm
  · have h := (key j (Finset.mem_filter.1 hj).2).2
    rw [← h]; exact congrArg upd (ValueIdx.eq_ix2 j)

/-- A word in range is its own place: not negative, so not shifted; and it passes both bounds. -/
theorem wrap_word (n : ℕ) (h : n < 9996) :
    Scalar.select (IntOp.cmpi .slt (BitVec.ofNat 32 n) 0#32) (IntOp.addi (BitVec.ofNat 32 n) 9996#32) (BitVec.ofNat 32 n)
      = BitVec.ofNat 32 n := by
  refine if_neg fun hc => ?_
  have := (StableHlo.Predicate.slt_ofNat_iff n 0 (by omega) (by norm_num)).1 hc
  omega

theorem bounds_word (n : ℕ) (h : n < 9996) :
    IntOp.andi (IntOp.cmpi .sge (BitVec.ofNat 32 n) 0#32) (IntOp.cmpi .sle (BitVec.ofNat 32 n) 9995#32) = 1#1 := by
  rw [IntOp.andi_eq_one]
  refine ⟨?_, (StableHlo.Predicate.sle_ofNat_iff n 9995 (by omega) (by norm_num)).2 (by omega)⟩
  rw [IntOp.cmpi_sge, StableHlo.Predicate.toInt_ofNat_small n (by omega)]
  show (0 : ℤ) ≤ n
  omega

end Cert.Attn

end
-- ==== Proof.RefEdges.lean ====
module

public import proofs.«01_k».proof.Proof.Gen.ReferenceIdeal.Read
public import proofs.«01_k».proof.Proof.Target
public import proofs.«01_k».proof.Proof.RefOps

@[expose] public section

set_option maxRecDepth 16384

noncomputable section

/-!
# The reference at an edge

Where the edge list is the one of 588 fully connected graphs, the reference's takes are in range, and the logit of an edge
is the rectified score of its two nodes.
-/

namespace Cert.ReferenceIdeal.Read

open Cert.ReferenceIdeal Cert.ReferenceIdeal.Gen Idealize.ShloMosaic Cert.Attn

/-- The nodes of an edge. -/
def srcNode (e : Fin 159936) : Fin 9996 := ⟨srcOf e, srcOf_lt e.isLt⟩
def dstNode (e : Fin 159936) : Fin 9996 := ⟨dstOf e, dstOf_lt e.isLt⟩

/-- The edge list is the one of fully connected graphs. -/
def Edges (x4 : IVec S2x159936 32) : Prop :=
  ∀ e : Fin 159936, x4 (ix2 0 e) = BitVec.ofNat 32 (srcOf e) ∧ x4 (ix2 1 e) = BitVec.ofNat 32 (dstOf e)

variable (x0 : FVec Ideal S9996x256 .f32) (x1 : FVec Ideal S159936x16 .f32) (x2 : FVec Ideal S9996x300 .f32)
  (x3 : IVec S9996 32) (x4 : IVec S2x159936 32) (x5 : FVec Ideal S1128x1 .f32) (x6 : FVec Ideal S1 .f32)
  (hE : Edges x4)

/-! ### The index columns -/

theorem v1_raw (e : Fin 159936) : val_main_v1 (F := Ideal) x4 (ix1 e) = x4 (ix2 0 e) := by
  pointwise [val_main_v1, val_main_v0]

theorem v3_raw (e : Fin 159936) : val_main_v3 (F := Ideal) x4 (ix1 e) = x4 (ix2 1 e) := by
  pointwise [val_main_v3, val_main_v2]

include hE

theorem v1_at (e : Fin 159936) : val_main_v1 (F := Ideal) x4 (ix1 e) = BitVec.ofNat 32 (srcOf e) :=
  (v1_raw x4 e).trans (hE e).1

theorem v3_at (e : Fin 159936) : val_main_v3 (F := Ideal) x4 (ix1 e) = BitVec.ofNat 32 (dstOf e) :=
  (v3_raw x4 e).trans (hE e).2

theorem v27_at (e : Fin 159936) : val_main_v27 (F := Ideal) x4 (ix2 e 0) = BitVec.ofNat 32 (dstOf e) := by
  rw [val_main_v27_apply]
  exact v3_at x4 hE e

theorem v37_at (e : Fin 159936) : val_main_v37 (F := Ideal) x4 (ix2 e 0) = BitVec.ofNat 32 (dstOf e) := by
  rw [val_main_v37_apply]
  exact v3_at x4 hE e

/-! ### Take of the source rows: its indices and its range check -/

theorem call0_index (e : Fin 159936) : val_main_call0_v5 (F := Ideal) x4 (ix2 e 0) = BitVec.ofNat 32 (srcOf e) := by
  have h : val_main_call0_v4 (F := Ideal) x4 (ix1 e) = BitVec.ofNat 32 (srcOf e) := by
    rw [val_main_call0_v4_apply, val_main_call0_v1_apply, val_main_call0_v3_apply, val_main_call0_v0_apply,
      val_main_call0_v2_apply, val_main_call0_c_apply, val_main_call0_c_0_apply, v1_at x4 hE e]
    exact wrap_word _ (srcOf_lt e.isLt)
  rw [val_main_call0_v5_apply]
  exact h

theorem call0_inside (e : Fin 159936) : val_main_call0_v12 (F := Ideal) x4 (ix1 e) = 1#1 := by
  unfold val_main_call0_v12
  refine Host.reduce_andi_one _ _ _ _ _ rfl fun i => ?_
  obtain ⟨a, rfl⟩ : ∃ a : Fin 159936, i = ix2 a 0 :=
    ⟨i 0, (ValueIdx.eq_ix2 i).trans (congrArg (fun b : Fin 1 => (ix2 (i 0) b : S159936x1.Idx)) (Subsingleton.elim _ _))⟩
  rw [val_main_call0_v11_apply, val_main_call0_v7_apply, val_main_call0_v10_apply, val_main_call0_v6_apply,
    val_main_call0_v9_apply, val_main_call0_v8_apply, val_main_call0_c_1_apply, val_main_call0_c_2_apply,
    call0_index x4 hE a]
  exact bounds_word _ (srcOf_lt a.isLt)

/-! ### Take of the destination rows: its indices and its range check -/

theorem call1_index (e : Fin 159936) : val_main_call1_v5 (F := Ideal) x4 (ix2 e 0) = BitVec.ofNat 32 (dstOf e) := by
  have h : val_main_call1_v4 (F := Ideal) x4 (ix1 e) = BitVec.ofNat 32 (dstOf e) := by
    rw [val_main_call1_v4_apply, val_main_call1_v1_apply, val_main_call1_v3_apply, val_main_call1_v0_apply,
      val_main_call1_v2_apply, val_main_call1_c_apply, val_main_call1_c_0_apply, v3_at x4 hE e]
    exact wrap_word _ (dstOf_lt e.isLt)
  rw [val_main_call1_v5_apply]
  exact h

theorem call1_inside (e : Fin 159936) : val_main_call1_v12 (F := Ideal) x4 (ix1 e) = 1#1 := by
  unfold val_main_call1_v12
  refine Host.reduce_andi_one _ _ _ _ _ rfl fun i => ?_
  obtain ⟨a, rfl⟩ : ∃ a : Fin 159936, i = ix2 a 0 :=
    ⟨i 0, (ValueIdx.eq_ix2 i).trans (congrArg (fun b : Fin 1 => (ix2 (i 0) b : S159936x1.Idx)) (Subsingleton.elim _ _))⟩
  rw [val_main_call1_v11_apply, val_main_call1_v7_apply, val_main_call1_v10_apply, val_main_call1_v6_apply,
    val_main_call1_v9_apply, val_main_call1_v8_apply, val_main_call1_c_1_apply, val_main_call1_c_2_apply,
    call1_index x4 hE a]
  exact bounds_word _ (dstOf_lt a.isLt)

/-! ### Take of the maxima: its indices and its range check -/

theorem call4_index (e : Fin 159936) : val_main_call4_v5 (F := Ideal) x4 (ix2 e 0) = BitVec.ofNat 32 (dstOf e) := by
  have h : val_main_call4_v4 (F := Ideal) x4 (ix1 e) = BitVec.ofNat 32 (dstOf e) := by
    rw [val_main_call4_v4_apply, val_main_call4_v1_apply, val_main_call4_v3_apply, val_main_call4_v0_apply,
      val_main_call4_v2_apply, val_main_call4_c_apply, val_main_call4_c_0_apply, v3_at x4 hE e]
    exact wrap_word _ (dstOf_lt e.isLt)
  rw [val_main_call4_v5_apply]
  exact h

theorem call4_inside (e : Fin 159936) : val_main_call4_v12 (F := Ideal) x4 (ix1 e) = 1#1 := by
  unfold val_main_call4_v12
  refine Host.reduce_andi_one _ _ _ _ _ rfl fun i => ?_
  obtain ⟨a, rfl⟩ : ∃ a : Fin 159936, i = ix2 a 0 :=
    ⟨i 0, (ValueIdx.eq_ix2 i).trans (congrArg (fun b : Fin 1 => (ix2 (i 0) b : S159936x1.Idx)) (Subsingleton.elim _ _))⟩
  rw [val_main_call4_v11_apply, val_main_call4_v7_apply, val_main_call4_v10_apply, val_main_call4_v6_apply,
    val_main_call4_v9_apply, val_main_call4_v8_apply, val_main_call4_c_1_apply, val_main_call4_c_2_apply,
    call4_index x4 hE a]
  exact bounds_word _ (dstOf_lt a.isLt)

/-! ### Take of the denominators: its indices and its range check -/

theorem call5_index (e : Fin 159936) : val_main_call5_v5 (F := Ideal) x4 (ix2 e 0) = BitVec.ofNat 32 (dstOf e) := by
  have h : val_main_call5_v4 (F := Ideal) x4 (ix1 e) = BitVec.ofNat 32 (dstOf e) := by
    rw [val_main_call5_v4_apply, val_main_call5_v1_apply, val_main_call5_v3_apply, val_main_call5_v0_apply,
      val_main_call5_v2_apply, val_main_call5_c_apply, val_main_call5_c_0_apply, v3_at x4 hE e]
    exact wrap_word _ (dstOf_lt e.isLt)
  rw [val_main_call5_v5_apply]
  exact h

theorem call5_inside (e : Fin 159936) : val_main_call5_v12 (F := Ideal) x4 (ix1 e) = 1#1 := by
  unfold val_main_call5_v12
  refine Host.reduce_andi_one _ _ _ _ _ rfl fun i => ?_
  obtain ⟨a, rfl⟩ : ∃ a : Fin 159936, i = ix2 a 0 :=
    ⟨i 0, (ValueIdx.eq_ix2 i).trans (congrArg (fun b : Fin 1 => (ix2 (i 0) b : S159936x1.Idx)) (Subsingleton.elim _ _))⟩
  rw [val_main_call5_v11_apply, val_main_call5_v7_apply, val_main_call5_v10_apply, val_main_call5_v6_apply,
    val_main_call5_v9_apply, val_main_call5_v8_apply, val_main_call5_c_1_apply, val_main_call5_c_2_apply,
    call5_index x4 hE a]
  exact bounds_word _ (dstOf_lt a.isLt)

/-! ### The rows taken -/

theorem v5_at (e : Fin 159936) (k : Fin 556) :
    val_main_v5 (F := Ideal) x0 x2 x4 (ix2 e k) = val_main_v4 (F := Ideal) x0 x2 (ix2 (srcNode e) k) := by
  have hm : val_main_call0_v14 (F := Ideal) x4 (ix2 e k) = 1#1 := by
    rw [val_main_call0_v14_apply]
    have hi : idx_main_call0_v14 (ix2 e k) = ix1 e := by
      funext a
      match a with
      | ⟨0, _⟩ => rfl
    rw [hi]
    exact call0_inside x4 hE e
  rw [val_main_v5_apply, hm]
  refine (if_pos rfl).trans ?_
  unfold val_main_call0_v13
  exact Routing.gather_row gather_S9996x556_S159936x1_S159936x556_1_0_n_n_0_1_1556 rfl rfl rfl rfl rfl
    (val_main_v4 (F := Ideal) x0 x2) (val_main_call0_v5 (F := Ideal) x4) e k (srcNode e) (call0_index x4 hE e) (by norm_num)

theorem v6_at (e : Fin 159936) (k : Fin 556) :
    val_main_v6 (F := Ideal) x0 x2 x4 (ix2 e k) = val_main_v4 (F := Ideal) x0 x2 (ix2 (dstNode e) k) := by
  have hm : val_main_call1_v14 (F := Ideal) x4 (ix2 e k) = 1#1 := by
    rw [val_main_call1_v14_apply]
    have hi : idx_main_call1_v14 (ix2 e k) = ix1 e := by
      funext a
      match a with
      | ⟨0, _⟩ => rfl
    rw [hi]
    exact call1_inside x4 hE e
  rw [val_main_v6_apply, hm]
  refine (if_pos rfl).trans ?_
  unfold val_main_call1_v13
  exact Routing.gather_row gather_S9996x556_S159936x1_S159936x556_1_0_n_n_0_1_1556 rfl rfl rfl rfl rfl
    (val_main_v4 (F := Ideal) x0 x2) (val_main_call1_v5 (F := Ideal) x4) e k (dstNode e) (call1_index x4 hE e) (by norm_num)

/-! ### The entries taken -/

theorem v23_at (e : Fin 159936) :
    val_main_v23 (F := Ideal) x0 x1 x2 x4 x5 x6 (ix1 e) = val_main_v22 (F := Ideal) x0 x1 x2 x4 x5 x6 (ix1 (dstNode e)) := by
  rw [val_main_v23_apply, call4_inside x4 hE e]
  refine (if_pos rfl).trans ?_
  unfold val_main_call4_v13
  exact Routing.take_ap gather_S9996_S159936x1_S159936_n_0_n_n_0_1_1 rfl rfl rfl rfl
    (val_main_v22 (F := Ideal) x0 x1 x2 x4 x5 x6) (val_main_call4_v5 (F := Ideal) x4) e (dstOf_lt e.isLt)
    ((dstOf_lt e.isLt).trans (by norm_num)) (call4_index x4 hE e)

theorem v29_at (e : Fin 159936) :
    val_main_v29 (F := Ideal) x0 x1 x2 x4 x5 x6 (ix1 e) = val_main_v28 (F := Ideal) x0 x1 x2 x4 x5 x6 (ix1 (dstNode e)) := by
  rw [val_main_v29_apply, call5_inside x4 hE e]
  refine (if_pos rfl).trans ?_
  unfold val_main_call5_v13
  exact Routing.take_ap gather_S9996_S159936x1_S159936_n_0_n_n_0_1_1 rfl rfl rfl rfl
    (val_main_v28 (F := Ideal) x0 x1 x2 x4 x5 x6) (val_main_call5_v5 (F := Ideal) x4) e (dstOf_lt e.isLt)
    ((dstOf_lt e.isLt).trans (by norm_num)) (call5_index x4 hE e)

omit hE

/-! ### The concatenated rows -/

/-- The features of a node and its word vector, one after the other. -/
theorem v4_feat (n : Fin 9996) (k : Fin 256) : val_main_v4 (F := Ideal) x0 x2 (ix2 n ⟨k.val, by omega⟩) = x0 (ix2 n k) := by
  pointwise [val_main_v4]

theorem v4_word (n : Fin 9996) (k : Fin 300) : val_main_v4 (F := Ideal) x0 x2 (ix2 n ⟨256 + k.val, by omega⟩) = x2 (ix2 n k) := by
  pointwise [val_main_v4]

theorem v7_src (e : Fin 159936) (k : Fin 556) :
    val_main_v7 (F := Ideal) x0 x1 x2 x4 (ix2 e ⟨k.val, by omega⟩) = val_main_v5 (F := Ideal) x0 x2 x4 (ix2 e k) := by
  unfold val_main_v7
  generalize val_main_v5 (F := Ideal) x0 x2 x4 = a
  generalize val_main_v6 (F := Ideal) x0 x2 x4 = b
  pointwise!

theorem v7_dst (e : Fin 159936) (k : Fin 556) :
    val_main_v7 (F := Ideal) x0 x1 x2 x4 (ix2 e ⟨556 + k.val, by omega⟩) = val_main_v6 (F := Ideal) x0 x2 x4 (ix2 e k) := by
  unfold val_main_v7
  generalize val_main_v5 (F := Ideal) x0 x2 x4 = a
  generalize val_main_v6 (F := Ideal) x0 x2 x4 = b
  pointwise!

theorem v7_sp (e : Fin 159936) (k : Fin 16) :
    val_main_v7 (F := Ideal) x0 x1 x2 x4 (ix2 e ⟨1112 + k.val, by omega⟩) = x1 (ix2 e k) := by
  unfold val_main_v7
  generalize val_main_v5 (F := Ideal) x0 x2 x4 = a
  generalize val_main_v6 (F := Ideal) x0 x2 x4 = b
  pointwise!

end Cert.ReferenceIdeal.Read

end
-- ==== Proof.RefLogit.lean ====
module

public import proofs.«01_k».proof.Proof.RefEdges

@[expose] public section

set_option maxRecDepth 16384

noncomputable section

/-!
# The reference's logits

The product of an edge's row with the weights falls into five sums: features and words of its source, of its destination,
and the spatial features of the edge. The logit is the rectified sum.
-/

namespace Cert.Attn

/-- A sum over 556 places, in its two parts. -/
theorem sum_556 (f : Fin 556 → EReal) :
    ∑ k, f k = ∑ k : Fin 256, f ⟨k.val, by omega⟩ + ∑ k : Fin 300, f ⟨256 + k.val, by omega⟩ :=
  Fin.sum_univ_add (a := 256) (b := 300) f

/-- A sum over 1112 places, in its two halves. -/
theorem sum_1112 (f : Fin 1112 → EReal) :
    ∑ k, f k = ∑ k : Fin 556, f ⟨k.val, by omega⟩ + ∑ k : Fin 556, f ⟨556 + k.val, by omega⟩ :=
  Fin.sum_univ_add (a := 556) (b := 556) f

/-- A sum over 1128 places, in its three parts. -/
theorem sum_1128 (f : Fin 1128 → EReal) :
    ∑ k, f k = ∑ k : Fin 556, f ⟨k.val, by omega⟩ + ∑ k : Fin 556, f ⟨556 + k.val, by omega⟩
      + ∑ k : Fin 16, f ⟨1112 + k.val, by omega⟩ := by
  refine (Fin.sum_univ_add (a := 1112) (b := 16) f).trans ?_
  exact congrArg (· + _) (sum_1112 fun k => f ⟨k.val, by omega⟩)

end Cert.Attn

namespace Cert.ReferenceIdeal.Read

open Cert.ReferenceIdeal Cert.ReferenceIdeal.Gen Idealize.ShloMosaic Cert.Attn

/-- The model's data, read off the reference's arguments. -/
def refData (x0 : FVec Ideal S9996x256 .f32) (x1 : FVec Ideal S159936x16 .f32) (x2 : FVec Ideal S9996x300 .f32)
    (x3 : IVec S9996 32) (x5 : FVec Ideal S1128x1 .f32) (x6 : FVec Ideal S1 .f32) (x7 : FVec Ideal S1112x512 .f32)
    (x8 : FVec Ideal S512 .f32) (x9 : FVec Ideal S512x117 .f32) (x10 : FVec Ideal S117 .f32) (x11 : FVec Ideal S512x117 .f32)
    (x12 : FVec Ideal S117 .f32) : Data where
  feat n k := x0 (ix2 n k)
  spatial e k := x1 (ix2 e k)
  word n k := x2 (ix2 n k)
  roi n := x3 (ix1 n)
  wAtt k := x5 (ix2 k 0)
  bAtt := x6 (ix1 0)
  wNode k x := x7 (ix2 k x)
  bNode x := x8 (ix1 x)
  wH k x := x9 (ix2 k x)
  bH x := x10 (ix1 x)
  wO k x := x11 (ix2 k x)
  bO x := x12 (ix1 x)

variable (x0 : FVec Ideal S9996x256 .f32) (x1 : FVec Ideal S159936x16 .f32) (x2 : FVec Ideal S9996x300 .f32)
  (x4 : IVec S2x159936 32) (x5 : FVec Ideal S1128x1 .f32) (x6 : FVec Ideal S1 .f32) (hE : Edges x4)

/-- The score of an edge between two nodes. -/
def scoreOf (s d : Fin 9996) (e : Fin 159936) : EReal :=
  ((∑ k : Fin 256, x0 (ix2 s k) * x5 (ix2 ⟨k.val, by omega⟩ 0) + ∑ k : Fin 300, x2 (ix2 s k) * x5 (ix2 ⟨256 + k.val, by omega⟩ 0))
    + (∑ k : Fin 256, x0 (ix2 d k) * x5 (ix2 ⟨556 + k.val, by omega⟩ 0)
      + ∑ k : Fin 300, x2 (ix2 d k) * x5 (ix2 ⟨812 + k.val, by omega⟩ 0))
    + ∑ k : Fin 16, x1 (ix2 e k) * x5 (ix2 ⟨1112 + k.val, by omega⟩ 0))
  + x6 (ix1 0)

include hE

theorem v8_at (e : Fin 159936) :
    FloatOps.addf (F := Ideal) (val_main_v8 (F := Ideal) x0 x1 x2 x4 x5 (ix2 e 0)) (x6 (ix1 0))
      = scoreOf x0 x1 x2 x5 x6 (srcNode e) (dstNode e) e := by
  have h : val_main_v8 (F := Ideal) x0 x1 x2 x4 x5 (ix2 e 0)
      = ∑ k : Fin 1128, val_main_v7 (F := Ideal) x0 x1 x2 x4 (ix2 e k) * x5 (ix2 k 0) := by
    rw [val_main_v8_apply]
    refine Finset.sum_congr rfl fun k _ => ?_
    have h1 : lidx_main_v8 (ix2 e 0) k = ix2 e k := by
      funext a
      match a with
      | ⟨0, _⟩ => rfl
      | ⟨1, _⟩ => rfl
    have h2 : ridx_main_v8 (ix2 e 0) k = ix2 k 0 := by
      funext a
      match a with
      | ⟨0, _⟩ => rfl
      | ⟨1, _⟩ => rfl
    rw [h1, h2]
  rw [h, sum_1128]
  simp only [v7_src, v7_dst, v7_sp, v5_at x0 x2 x4 hE, v6_at x0 x2 x4 hE]
  rw [sum_556, sum_556]
  simp only [v4_feat, v4_word]
  rfl

theorem v13_at (e : Fin 159936) :
    val_main_v13 (F := Ideal) x0 x1 x2 x4 x5 x6 (ix1 e) = leaky (scoreOf x0 x1 x2 x5 x6 (srcNode e) (dstNode e) e) := by
  have h13 : idx_main_v13 (ix1 e) = ix2 e 0 := by
    funext a
    match a with
    | ⟨0, _⟩ => exact Fin.ext (Nat.div_one _)
    | ⟨1, _⟩ => rfl
  have h10 : val_main_v10 (F := Ideal) x6 (ix2 e 0) = x6 (ix1 0) := by
    pointwise [val_main_v10, val_main_v9]
  have h11 : val_main_v11 (F := Ideal) x0 x1 x2 x4 x5 x6 (ix2 e 0) = scoreOf x0 x1 x2 x5 x6 (srcNode e) (dstNode e) e := by
    rw [val_main_v11_apply, h10]
    exact v8_at x0 x1 x2 x4 x5 x6 hE e
  rw [val_main_v13_apply, h13, val_main_v12_apply, val_main_call2_v1_apply, val_main_call2_v4_apply, val_main_call2_v0_apply,
    val_main_call2_v3_apply, val_main_call2_cst_apply, val_main_call2_v2_apply, h11]
  generalize scoreOf x0 x1 x2 x5 x6 (srcNode e) (dstNode e) e = s
  simp only [pointwise]
  rfl

omit hE

/-- At an edge of graph `G`, that is the model's score. -/
theorem scoreOf_edge (x3 : IVec S9996 32) (x7 : FVec Ideal S1112x512 .f32)
    (x8 : FVec Ideal S512 .f32) (x9 : FVec Ideal S512x117 .f32) (x10 : FVec Ideal S117 .f32) (x11 : FVec Ideal S512x117 .f32)
    (x12 : FVec Ideal S117 .f32) (G : Fin 588) (s d : Fin 17) (h : s ≠ d) :
    scoreOf x0 x1 x2 x5 x6 (srcNode (edgeOf G s d)) (dstNode (edgeOf G s d)) (edgeOf G s d)
      = (refData x0 x1 x2 x3 x5 x6 x7 x8 x9 x10 x11 x12).score G s d := by
  have hs : srcNode (edgeOf G s d) = nodeOf G s := Fin.ext (srcOf_edge s.isLt d.isLt)
  have hd : dstNode (edgeOf G s d) = nodeOf G d := Fin.ext (dstOf_edge s.isLt d.isLt fun hv => h (Fin.ext hv))
  rw [hs, hd]
  rfl

end Cert.ReferenceIdeal.Read

end
-- ==== Proof.RefValue.lean ====
module

public import proofs.«01_k».proof.Proof.RefLogit

@[expose] public section

set_option maxRecDepth 16384

noncomputable section

/-!
# The reference's result

Where the edge list is the one of 588 fully connected graphs, the reference's maxima, sums of exponentials and weighted
sums are those of the seventeen nodes of a graph, and its result is the model's.
-/

namespace Cert.ReferenceIdeal.Read

open Cert.ReferenceIdeal Cert.ReferenceIdeal.Gen Idealize.ShloMosaic Cert.Attn

variable (x0 : FVec Ideal S9996x256 .f32) (x1 : FVec Ideal S159936x16 .f32) (x2 : FVec Ideal S9996x300 .f32)
  (x3 : IVec S9996 32) (x4 : IVec S2x159936 32) (x5 : FVec Ideal S1128x1 .f32) (x6 : FVec Ideal S1 .f32)
  (x7 : FVec Ideal S1112x512 .f32) (x8 : FVec Ideal S512 .f32) (x9 : FVec Ideal S512x117 .f32) (x10 : FVec Ideal S117 .f32)
  (x11 : FVec Ideal S512x117 .f32) (x12 : FVec Ideal S117 .f32)
  (z : Fin 588 → Fin 17 → Fin 17 → EReal)
  (hz : ∀ G s d, s ≠ d →
    scoreOf x0 x1 x2 x5 x6 (srcNode (edgeOf G s d)) (dstNode (edgeOf G s d)) (edgeOf G s d) = z G s d)
  (hE : Edges x4)

/-- Two words below 9996 are equal just where the numbers are. -/
theorem word_eq {a b : ℕ} (ha : a < 9996) (hb : b < 9996) :
    IntOp.cmpi .eq (BitVec.ofNat 32 a) (BitVec.ofNat 32 b) = if a = b then 1#1 else 0#1 := by
  have h : (BitVec.ofNat 32 a == BitVec.ofNat 32 b) = decide (a = b) := by
    rw [Bool.eq_iff_iff, beq_iff_eq, decide_eq_true_iff]
    constructor
    · intro he
      have := congrArg BitVec.toNat he
      rwa [BitVec.toNat_ofNat, BitVec.toNat_ofNat, Nat.mod_eq_of_lt (by omega), Nat.mod_eq_of_lt (by omega)] at this
    · intro he
      rw [he]
  show BitVec.ofBool (BitVec.ofNat 32 a == BitVec.ofNat 32 b) = _
  rw [h]
  by_cases hab : a = b
  · rw [if_pos hab, decide_eq_true hab]; rfl
  · rw [if_neg hab, decide_eq_false hab]; rfl

include hE

/-- Where the destination of an edge is the row, the masked logit is the logit, elsewhere the bottom. -/
theorem v21_at (n : Fin 9996) (e : Fin 159936) :
    val_main_v21 (F := Ideal) x0 x1 x2 x4 x5 x6 (ix2 n e)
      = if n.val = dstOf e.val then leaky (scoreOf x0 x1 x2 x5 x6 (srcNode e) (dstNode e) e) else ⊥ := by
  have h17 : val_main_v17 (F := Ideal) (ix2 n e) = BitVec.ofNat 32 n.val := by
    pointwise [val_main_v17, val_main_v15, val_main_v14]
  have h18 : val_main_v18 (F := Ideal) x4 (ix2 n e) = BitVec.ofNat 32 (dstOf e) := by
    refine Eq.trans ?_ (v3_at x4 hE e)
    unfold val_main_v18 val_main_v16
    generalize val_main_v3 (F := Ideal) x4 = y
    pointwise!
  have h1 : val_main_call3_v1 (F := Ideal) x0 x1 x2 x4 x5 x6 (ix2 n e)
      = leaky (scoreOf x0 x1 x2 x5 x6 (srcNode e) (dstNode e) e) := by
    refine Eq.trans ?_ (v13_at x0 x1 x2 x4 x5 x6 hE e)
    unfold val_main_call3_v1 val_main_v20
    generalize val_main_v13 (F := Ideal) x0 x1 x2 x4 x5 x6 = y
    pointwise!
  have h2 : val_main_call3_v2 (F := Ideal) (ix2 n e) = ⊥ := by
    refine Eq.trans ?_ negInf
    rw [val_main_call3_v2_apply]
    rfl
  rw [val_main_v21_apply, val_main_v19_apply, h17, h18, h1, h2, word_eq n.isLt (dstOf_lt e.isLt)]
  split
  · exact if_pos rfl
  · exact if_neg fun hc => absurd hc (by decide)

include hz

theorem v13_edge (G : Fin 588) (s d : Fin 17) (h : s ≠ d) :
    val_main_v13 (F := Ideal) x0 x1 x2 x4 x5 x6 (ix1 (edgeOf G s d)) = masked (z G) s d := by
  rw [v13_at x0 x1 x2 x4 x5 x6 hE, hz G s d h]
  exact (if_neg h).symm

/-- The maximum into a node. -/
theorem v22_at (G : Fin 588) (d : Fin 17) :
    val_main_v22 (F := Ideal) x0 x1 x2 x4 x5 x6 (ix1 (nodeOf G d)) = top (z G) d := by
  have h : val_main_v22 (F := Ideal) x0 x1 x2 x4 x5 x6 (ix1 (nodeOf G d))
      = Finset.univ.sup fun e : Fin 159936 => val_main_v21 (F := Ideal) x0 x1 x2 x4 x5 x6 (ix2 (nodeOf G d) e) := by
    unfold val_main_v22 val_main_cst_1
    generalize val_main_v21 (F := Ideal) x0 x1 x2 x4 x5 x6 = y
    refine Eq.trans ?_ (fold_max_sup _ _)
    rw [← negInf]
    simp only [pointwise]
  rw [h]
  simp only [v21_at x0 x1 x2 x4 x5 x6 hE]
  refine (sup_edges G d fun e => leaky (scoreOf x0 x1 x2 x5 x6 (srcNode e) (dstNode e) e)).trans ?_
  unfold top masked
  refine congrArg _ (funext fun s => ?_)
  by_cases hsd : s = d
  · rw [if_pos hsd, if_pos hsd]
  · rw [if_neg hsd, if_neg hsd]
    exact congrArg leaky (hz G s d hsd)

/-- The exponential at an edge. -/
theorem v25_at (G : Fin 588) (s d : Fin 17) (h : s ≠ d) :
    val_main_v25 (F := Ideal) x0 x1 x2 x4 x5 x6 (ix1 (edgeOf G s d)) = ex (z G) s d := by
  have hd : dstNode (edgeOf G s d) = nodeOf G d := Fin.ext (dstOf_edge s.isLt d.isLt fun hv => h (Fin.ext hv))
  rw [val_main_v25_apply, val_main_v24_apply, v13_edge x0 x1 x2 x4 x5 x6 z hz hE G s d h, v23_at x0 x1 x2 x4 x5 x6 hE, hd,
    v22_at x0 x1 x2 x4 x5 x6 z hz hE]
  rfl

/-- The sum of the exponentials into a node. -/
theorem v28_at (G : Fin 588) (d : Fin 17) :
    val_main_v28 (F := Ideal) x0 x1 x2 x4 x5 x6 (ix1 (nodeOf G d)) = ∑ s, ex (z G) s d := by
  unfold val_main_v28
  refine (add_at _ _ _ _ (fun e : Fin 159936 => dstOf e) (v27_at x4 hE)
    (fun e => (dstOf_lt e.isLt).trans (by norm_num)) (nodeOf G d)).trans ?_
  have h0 : val_main_v26 (F := Ideal) (ix1 (nodeOf G d)) = 0 := by
    pointwise [val_main_v26, val_main_cst_2]
  rw [h0, zero_add]
  refine (sum_edges G d fun e => val_main_v25 (F := Ideal) x0 x1 x2 x4 x5 x6 (ix1 e)).trans ?_
  refine Finset.sum_congr rfl fun s _ => ?_
  by_cases hsd : s = d
  · rw [if_pos hsd, hsd, ex_self]
  · rw [if_neg hsd]
    exact v25_at x0 x1 x2 x4 x5 x6 z hz hE G s d hsd

/-- The attention weight of an edge. -/
theorem v32_at (G : Fin 588) (s d : Fin 17) (h : s ≠ d) :
    val_main_v32 (F := Ideal) x0 x1 x2 x4 x5 x6 (ix1 (edgeOf G s d)) = alpha (z G) s d := by
  have hd : dstNode (edgeOf G s d) = nodeOf G d := Fin.ext (dstOf_edge s.isLt d.isLt fun hv => h (Fin.ext hv))
  rw [val_main_v32_apply, val_main_v31_apply, v25_at x0 x1 x2 x4 x5 x6 z hz hE G s d h, v29_at x0 x1 x2 x4 x5 x6 hE, hd,
    v28_at x0 x1 x2 x4 x5 x6 z hz hE, val_main_v30_apply]
  rfl

/-- The weighted sum of the messages into a node. -/
theorem v38_at (G : Fin 588) (d : Fin 17) (k : Fin 556) :
    val_main_v38 (F := Ideal) x0 x1 x2 x4 x5 x6 (ix2 (nodeOf G d) k)
      = agg (z G) (fun s => val_main_v4 (F := Ideal) x0 x2 (ix2 (nodeOf G s) k)) d := by
  unfold val_main_v38
  refine (add_rows _ _ _ _ (fun e : Fin 159936 => dstOf e) (v37_at x4 hE)
    (fun e => (dstOf_lt e.isLt).trans (by norm_num)) (nodeOf G d) k).trans ?_
  have h0 : val_main_v36 (F := Ideal) (ix2 (nodeOf G d) k) = 0 := by
    pointwise [val_main_v36, val_main_cst_4]
  rw [h0, zero_add]
  refine (sum_edges G d fun e => val_main_v35 (F := Ideal) x0 x1 x2 x4 x5 x6 (ix2 e k)).trans ?_
  unfold agg
  refine Finset.sum_congr rfl fun s _ => ?_
  by_cases hsd : s = d
  · rw [if_pos hsd, hsd, alpha_self, zero_mul]
  · rw [if_neg hsd]
    have hs : srcNode (edgeOf G s d) = nodeOf G s := Fin.ext (srcOf_edge s.isLt d.isLt)
    have h34 : val_main_v34 (F := Ideal) x0 x1 x2 x4 x5 x6 (ix2 (edgeOf G s d) k) = alpha (z G) s d := by
      refine Eq.trans ?_ (v32_at x0 x1 x2 x4 x5 x6 z hz hE G s d hsd)
      unfold val_main_v34 val_main_v33
      generalize val_main_v32 (F := Ideal) x0 x1 x2 x4 x5 x6 = y
      generalize edgeOf G s d = e
      pointwise!
    change val_main_v35 (F := Ideal) x0 x1 x2 x4 x5 x6 (ix2 (edgeOf G s d) k) = _
    rw [val_main_v35_apply, h34, v5_at x0 x2 x4 hE, hs]
    rfl

omit hz hE

/-! ### The three products -/

theorem v40_sum (n : Fin 9996) (c : Fin 512) :
    val_main_v40 (F := Ideal) x0 x1 x2 x4 x5 x6 x7 (ix2 n c)
      = ∑ k : Fin 1112, val_main_v39 (F := Ideal) x0 x1 x2 x4 x5 x6 (ix2 n k) * x7 (ix2 k c) := by
  rw [val_main_v40_apply]
  refine Finset.sum_congr rfl fun k _ => ?_
  have h1 : lidx_main_v40 (ix2 n c) k = ix2 n k := by
    funext a
    match a with
    | ⟨0, _⟩ => rfl
    | ⟨1, _⟩ => rfl
  have h2 : ridx_main_v40 (ix2 n c) k = ix2 k c := by
    funext a
    match a with
    | ⟨0, _⟩ => rfl
    | ⟨1, _⟩ => rfl
  rw [h1, h2]

theorem v45_sum (n : Fin 9996) (c : Fin 117) :
    val_main_v45 (F := Ideal) x0 x1 x2 x4 x5 x6 x7 x8 x9 (ix2 n c)
      = ∑ k : Fin 512, val_main_v44 (F := Ideal) x0 x1 x2 x4 x5 x6 x7 x8 (ix2 n k) * x9 (ix2 k c) := by
  rw [val_main_v45_apply]
  refine Finset.sum_congr rfl fun k _ => ?_
  have h1 : lidx_main_v45 (ix2 n c) k = ix2 n k := by
    funext a
    match a with
    | ⟨0, _⟩ => rfl
    | ⟨1, _⟩ => rfl
  have h2 : ridx_main_v45 (ix2 n c) k = ix2 k c := by
    funext a
    match a with
    | ⟨0, _⟩ => rfl
    | ⟨1, _⟩ => rfl
  rw [h1, h2]

theorem v49_sum (n : Fin 9996) (c : Fin 117) :
    val_main_v49 (F := Ideal) x0 x1 x2 x4 x5 x6 x7 x8 x11 (ix2 n c)
      = ∑ k : Fin 512, val_main_v44 (F := Ideal) x0 x1 x2 x4 x5 x6 x7 x8 (ix2 n k) * x11 (ix2 k c) := by
  rw [val_main_v49_apply]
  refine Finset.sum_congr rfl fun k _ => ?_
  have h1 : lidx_main_v49 (ix2 n c) k = ix2 n k := by
    funext a
    match a with
    | ⟨0, _⟩ => rfl
    | ⟨1, _⟩ => rfl
  have h2 : ridx_main_v49 (ix2 n c) k = ix2 k c := by
    funext a
    match a with
    | ⟨0, _⟩ => rfl
    | ⟨1, _⟩ => rfl
  rw [h1, h2]

/-! ### The two halves of a node's row -/

theorem v39_own (n : Fin 9996) (k : Fin 556) :
    val_main_v39 (F := Ideal) x0 x1 x2 x4 x5 x6 (ix2 n ⟨k.val, by omega⟩) = val_main_v4 (F := Ideal) x0 x2 (ix2 n k) := by
  unfold val_main_v39
  generalize val_main_v4 (F := Ideal) x0 x2 = a
  generalize val_main_v38 (F := Ideal) x0 x1 x2 x4 x5 x6 = b
  pointwise!

theorem v39_agg (n : Fin 9996) (k : Fin 556) :
    val_main_v39 (F := Ideal) x0 x1 x2 x4 x5 x6 (ix2 n ⟨556 + k.val, by omega⟩) = val_main_v38 (F := Ideal) x0 x1 x2 x4 x5 x6 (ix2 n k) := by
  unfold val_main_v39
  generalize val_main_v4 (F := Ideal) x0 x2 = a
  generalize val_main_v38 (F := Ideal) x0 x1 x2 x4 x5 x6 = b
  pointwise!

include hE

/-- A node's aggregated messages. -/
theorem v38_node (n : Fin 9996) (k : Fin 556) :
    val_main_v38 (F := Ideal) x0 x1 x2 x4 x5 x6 (ix2 n k)
      = agg ((refData x0 x1 x2 x3 x5 x6 x7 x8 x9 x10 x11 x12).score (graphOf n)) (fun s => val_main_v4 (F := Ideal) x0 x2 (ix2 (nodeOf (graphOf n) s) k)) (placeOf n) := by
  have hn : nodeOf (graphOf n) (placeOf n) = n := Fin.ext (Nat.div_add_mod n.val 17)
  refine Eq.trans ?_ (v38_at x0 x1 x2 x4 x5 x6 (refData x0 x1 x2 x3 x5 x6 x7 x8 x9 x10 x11 x12).score
    (fun G s d h => scoreOf_edge x0 x1 x2 x5 x6 x3 x7 x8 x9 x10 x11 x12 G s d h) hE (graphOf n) (placeOf n) k)
  rw [hn]

/-- The hidden layer. -/
theorem v44_at (n : Fin 9996) (x : Fin 512) :
    val_main_v44 (F := Ideal) x0 x1 x2 x4 x5 x6 x7 x8 (ix2 n x) = (refData x0 x1 x2 x3 x5 x6 x7 x8 x9 x10 x11 x12).hidden n x := by
  have h42 : val_main_v42 (F := Ideal) x8 (ix2 n x) = x8 (ix1 x) := by
    pointwise [val_main_v42, val_main_v41]
  have h0 : val_main_call6_v0 (F := Ideal) (ix2 n x) = 0 := by
    pointwise [val_main_call6_v0, val_main_call6_cst]
  rw [val_main_v44_apply, val_main_v43_apply, h42, h0, v40_sum, sum_1112]
  simp only [v39_own, v39_agg, v38_node x0 x1 x2 x3 x4 x5 x6 x7 x8 x9 x10 x11 x12 hE]
  rw [sum_556, sum_556]
  simp only [v4_feat, v4_word]
  rw [← add_assoc]
  rfl

/-- The result. -/
theorem v56_at (n : Fin 9996) (c : Fin 117) :
    val_main_v56 (F := Ideal) x0 x1 x2 x3 x4 x5 x6 x7 x8 x9 x10 x11 x12 (ix2 n c) = (refData x0 x1 x2 x3 x5 x6 x7 x8 x9 x10 x11 x12).pred n c := by
  have h47 : val_main_v47 (F := Ideal) x10 (ix2 n c) = x10 (ix1 c) := by
    pointwise [val_main_v47, val_main_v46]
  have h51 : val_main_v51 (F := Ideal) x12 (ix2 n c) = x12 (ix1 c) := by
    pointwise [val_main_v51, val_main_v50]
  have hroi : val_main_call7_v0 (F := Ideal) x3 (ix2 n c) = IntOp.cmpi .eq (x3 (ix1 n)) 1#32 := by
    pointwise [val_main_call7_v0, val_main_v55, val_main_v54, val_main_v53, val_main_c]
  rw [val_main_v56_apply, hroi, val_main_v48_apply, val_main_v52_apply, h47, h51, v45_sum, v49_sum]
  simp only [v44_at x0 x1 x2 x3 x4 x5 x6 x7 x8 x9 x10 x11 x12 hE]
  rfl

/-- The reference's result is the model's. -/
theorem reference_eq : val_main_v56 (F := Ideal) x0 x1 x2 x3 x4 x5 x6 x7 x8 x9 x10 x11 x12
    = (fun i => (refData x0 x1 x2 x3 x5 x6 x7 x8 x9 x10 x11 x12).pred (i 0) (i 1) : FVec Ideal S9996x117 .f32) := by
  funext i
  have hi : i = ix2 (i 0) (i 1) := ValueIdx.eq_ix2 i
  rw [hi]
  exact v56_at x0 x1 x2 x3 x4 x5 x6 x7 x8 x9 x10 x11 x12 hE (i 0) (i 1)

end Cert.ReferenceIdeal.Read

end
-- ==== Proof.lean ====
/- The claims of proofs.«01_k».proof.Defs, each from the run that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.Gen.Pre_fully_connected
public import proofs.«01_k».proof.Proof.IdealExact
public import proofs.«01_k».proof.Proof.KernelValue
public import proofs.«01_k».proof.Proof.Pre
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference's run read at its arguments; it declares no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Equal arguments are the same data. -/
theorem data_congr
    {x0 y0 : FVec Ideal Cert.ReferenceIdeal.S9996x256 .f32}
    {x1 y1 : FVec Ideal Cert.ReferenceIdeal.S159936x16 .f32}
    {x2 y2 : FVec Ideal Cert.ReferenceIdeal.S9996x300 .f32}
    {x3 y3 : IVec Cert.ReferenceIdeal.S9996 32}
    {x5 y5 : FVec Ideal Cert.ReferenceIdeal.S1128x1 .f32}
    {x6 y6 : FVec Ideal Cert.ReferenceIdeal.S1 .f32}
    {x7 y7 : FVec Ideal Cert.ReferenceIdeal.S1112x512 .f32}
    {x8 y8 : FVec Ideal Cert.ReferenceIdeal.S512 .f32}
    {x9 y9 : FVec Ideal Cert.ReferenceIdeal.S512x117 .f32}
    {x10 y10 : FVec Ideal Cert.ReferenceIdeal.S117 .f32}
    {x11 y11 : FVec Ideal Cert.ReferenceIdeal.S512x117 .f32}
    {x12 y12 : FVec Ideal Cert.ReferenceIdeal.S117 .f32}
    (h0 : y0 = x0) (h1 : y1 = x1) (h2 : y2 = x2) (h3 : y3 = x3) (h5 : y5 = x5) (h6 : y6 = x6) (h7 : y7 = x7) (h8 : y8 = x8) (h9 : y9 = x9) (h10 : y10 = x10) (h11 : y11 = x11) (h12 : y12 = x12) :
    Cert.ReferenceIdeal.Read.refData y0 y1 y2 y3 y5 y6 y7 y8 y9 y10 y11 y12
      = Cert.ReferenceIdeal.Read.refData x0 x1 x2 x3 x5 x6 x7 x8 x9 x10 x11 x12 := by
  subst h0 h1 h2 h3 h5 h6 h7 h8 h9 h10 h11 h12
  rfl

/-- Where the edge list is the one of the fully connected graphs, the arguments of the two programs being the same, the
two results are one array: the model's predictions. -/
theorem value : Cert.algebraic_KernelIdeal_ReferenceIdeal_pre_fully_connected := by
  intro m g m' g' hpre hargs
  refine ⟨fun c => (fun i => (Cert.KernelIdeal.Run.dataOf m c).pred (i 0) (i 1) : FVec Ideal Cert.KernelIdeal.S9996x117 .f32), ?_, ?_⟩
  · refine (θ_run Cert.KernelIdeal.defs _ _).mono (fun r h c => ⟨(h c).1.trans ?_, (h c).2⟩)
      (Cert.KernelIdeal.Run.exact_run _ _ _ m g Cert.KernelIdeal.Run.fits0 Cert.KernelIdeal.Run.fits1)
    exact Cert.KernelIdeal.Run.result_eq m c
  · refine (θ_run Cert.ReferenceIdeal.defs _ _).mono (fun r h c => ⟨(h c).1.trans ?_, (h c).2⟩)
      (Cert.ReferenceIdeal.Value.run (F := Ideal) m' g')
    refine (Cert.ReferenceIdeal.Read.val_main_v56_eq (StableHlo.launchContents m' c)).trans ?_
    obtain ⟨e0, e1, e2, e3, e4, e5, e6, e7, e8, e9, e10, e11, e12⟩ := hargs c
    have hE : Cert.ReferenceIdeal.Read.Edges (m' ((c.tc : Thread Cert.ReferenceIdeal.nD Cert.ReferenceIdeal.τ).loc Cert.ReferenceIdeal.main_arg4)) := by
      rw [e4]
      exact Cert.Pre_fully_connected.edges_of_pre _ _ _ _ _ _ _ _ _ _ _ _ _ (hpre c)
    refine (Cert.ReferenceIdeal.Read.reference_eq _ _ _ _ _ _ _ _ _ _ _ _ _ hE).trans ?_
    refine congrArg (fun A : Cert.Attn.Data => (fun i => A.pred (i 0) (i 1) : FVec Ideal Cert.KernelIdeal.S9996x117 .f32)) ?_
    have h := data_congr e0 e1 e2 e3 e5 e6 e7 e8 e9 e10 e11 e12
    exact h

theorem claim : Cert.Claim := ⟨Cert.Kernel.Gen.facts, Cert.KernelIdeal.Gen.facts, Cert.ReferenceIdeal.Gen.facts,
  Cert.Pre_fully_connected.Gen.facts,
  fun m g _ => Cert.Kernel.Run.frame m g, fun m g _ => Cert.KernelIdeal.Run.frame m g,
  fun m g _ => Cert.KernelIdeal.Run.frame m g, reference_frame, fun m g _ => reference_frame m g trivial,
  IdealRules.named_const.statement Cert.KernelIdeal.κ "mask" .f32 0xF149F2CA#32 ⊥ rfl, value⟩

end Cert.Proof

end
